-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_main_pre [hPre_main_pre : Cert.Pre_main_pre.Facts] (m : (ℓ : Loc Cert.MainIdeal.nD Cert.MainIdeal.τ Cert.MainIdeal.sig) → Buf (Elt Ideal) ℓ) : Prop :=
  ∀ c : Dev Cert.MainIdeal.nD,
    (Cert.Pre_main_pre.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3))) = (fun _ => 1#1)

def Pre_MainRefIdeal (m : (ℓ : Loc Cert.MainRefIdeal.nD Cert.MainRefIdeal.τ Cert.MainRefIdeal.sig) → Buf (Elt Ideal) ℓ) : Prop :=
  True

def Pre_MainRefIdeal_main_pre [hPre_main_pre : Cert.Pre_main_pre.Facts] (m : (ℓ : Loc Cert.MainRefIdeal.nD Cert.MainRefIdeal.τ Cert.MainRefIdeal.sig) → Buf (Elt Ideal) ℓ) : Prop :=
  ∀ c : Dev Cert.MainRefIdeal.nD,
    (Cert.Pre_main_pre.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_select_pre [hPre_select_pre : Cert.Pre_select_pre.Facts] (m : (ℓ : Loc Cert.SelectIdeal.nD Cert.SelectIdeal.τ Cert.SelectIdeal.sig) → Buf (Elt Ideal) ℓ) : Prop :=
  ∀ c : Dev Cert.SelectIdeal.nD,
    (Cert.Pre_select_pre.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_select_pre [hPre_select_pre : Cert.Pre_select_pre.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_select_pre.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1))) = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_MainIdeal_pre_main_pre [hMainIdeal : Cert.MainIdeal.Facts] [hPre_main_pre : Cert.Pre_main_pre.Facts] : Prop :=
  ∀ (m : (ℓ : Loc Cert.MainIdeal.nD Cert.MainIdeal.τ Cert.MainIdeal.sig) → Buf (Elt Ideal) ℓ) (g : Dev Cert.MainIdeal.nD → PrngReg), Pre_MainIdeal_main_pre m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3))
      ∧ r.2.sem = fun _ => 0)

def quiescent_MainRefIdeal_pre_main_pre [hMainRefIdeal : Cert.MainRefIdeal.Facts] [hPre_main_pre : Cert.Pre_main_pre.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal_main_pre m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_select_pre [hSelectIdeal : Cert.SelectIdeal.Facts] [hPre_select_pre : Cert.Pre_select_pre.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_select_pre m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_SelectRefIdeal_pre_select_pre [hSelectRefIdeal : Cert.SelectRefIdeal.Facts] [hPre_select_pre : Cert.Pre_select_pre.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_select_pre m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def preserves_Main_MainIdeal : Prop :=
  True

def algebraic_MainIdeal_MainRefIdeal_pre_main_pre [hMainIdeal : Cert.MainIdeal.Facts] [hMainRefIdeal : Cert.MainRefIdeal.Facts] [hPre_main_pre : Cert.Pre_main_pre.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal_main_pre m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)) →
    ∃ (v0 : (c : Dev Cert.MainIdeal.nD) → Buf (Elt Ideal) ((c.tc : Thread Cert.MainIdeal.nD Cert.MainIdeal.τ).loc Cert.MainIdeal.main_v24_0)) (v1 : (c : Dev Cert.MainIdeal.nD) → Buf (Elt Ideal) ((c.tc : Thread Cert.MainIdeal.nD Cert.MainIdeal.τ).loc Cert.MainIdeal.main_v24_1)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v24_0) = v0 c
          ∧ r.2.mem ((c.tc : Thread Cert.MainIdeal.nD Cert.MainIdeal.τ).loc Cert.MainIdeal.main_v24_1) = v1 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v33) = v0 c
          ∧ r.2.mem ((c.tc : Thread Cert.MainRefIdeal.nD Cert.MainRefIdeal.τ).loc Cert.MainRefIdeal.main_v38) = v1 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3))

def preserves_Select_SelectIdeal : Prop :=
  True

def algebraic_SelectIdeal_SelectRefIdeal_pre_select_pre [hSelectIdeal : Cert.SelectIdeal.Facts] [hSelectRefIdeal : Cert.SelectRefIdeal.Facts] [hPre_select_pre : Cert.Pre_select_pre.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_select_pre m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v1) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v26) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1))

def Claim : Prop :=
  ∃ (hMain : Cert.Main.Facts) (hMainIdeal : Cert.MainIdeal.Facts) (hMainRefIdeal : Cert.MainRefIdeal.Facts) (hSelect : Cert.Select.Facts) (hSelectIdeal : Cert.SelectIdeal.Facts) (hSelectRefIdeal : Cert.SelectRefIdeal.Facts) (hPre_main_pre : Cert.Pre_main_pre.Facts) (hPre_select_pre : Cert.Pre_select_pre.Facts),
    quiescent_Main (hMain := hMain)
    ∧ quiescent_MainIdeal (hMainIdeal := hMainIdeal)
    ∧ quiescent_MainIdeal_pre_main_pre (hMainIdeal := hMainIdeal) (hPre_main_pre := hPre_main_pre)
    ∧ quiescent_MainRefIdeal (hMainRefIdeal := hMainRefIdeal)
    ∧ quiescent_MainRefIdeal_pre_main_pre (hMainRefIdeal := hMainRefIdeal) (hPre_main_pre := hPre_main_pre)
    ∧ quiescent_Select (hSelect := hSelect)
    ∧ quiescent_SelectIdeal (hSelectIdeal := hSelectIdeal)
    ∧ quiescent_SelectIdeal_pre_select_pre (hSelectIdeal := hSelectIdeal) (hPre_select_pre := hPre_select_pre)
    ∧ quiescent_SelectRefIdeal (hSelectRefIdeal := hSelectRefIdeal)
    ∧ quiescent_SelectRefIdeal_pre_select_pre (hSelectRefIdeal := hSelectRefIdeal) (hPre_select_pre := hPre_select_pre)
    ∧ preserves_Main_MainIdeal
    ∧ algebraic_MainIdeal_MainRefIdeal_pre_main_pre (hMainIdeal := hMainIdeal) (hMainRefIdeal := hMainRefIdeal) (hPre_main_pre := hPre_main_pre)
    ∧ preserves_Select_SelectIdeal
    ∧ algebraic_SelectIdeal_SelectRefIdeal_pre_select_pre (hSelectIdeal := hSelectIdeal) (hSelectRefIdeal := hSelectRefIdeal) (hPre_select_pre := hPre_select_pre)
-- ==== Pre_main_pre.lean ====
abbrev S64x24564x4 : Shape := ⟨3, ![64, 24564, 4]⟩
abbrev S64x24564x21 : Shape := ⟨3, ![64, 24564, 21]⟩
abbrev S64x24564 : Shape := ⟨2, ![64, 24564]⟩
abbrev S_ : Shape := ⟨0, ![]⟩

class Facts : Prop where
  bcast_S_S64x24564 : S_.BroadcastsInDim S64x24564 (![] : Fin 0 → Fin S64x24564.rank)
  reducesTo_S64x24564_S_d0_1 : S64x24564.ReducesTo [0, 1] S_
  h_S_ : 0 < S_.numel
  bcast_S_S64x24564x21 : S_.BroadcastsInDim S64x24564x21 (![] : Fin 0 → Fin S64x24564x21.rank)
  reducesTo_S64x24564x21_S_d0_1_2 : S64x24564x21.ReducesTo [0, 1, 2] S_

variable [Facts]

def fn {F : FTy → Type} [FloatOps F] (main_arg0 : FVec F S64x24564x4 .f32) (main_arg1 : FVec F S64x24564x4 .f32) (main_arg2 : FVec F S64x24564x21 .f32) (main_arg3 : IVec S64x24564 32) : IVec S_ 1 :=
  let main_c : IVec S_ 32 := constantI S_ 32 0#32
  let main_v0 : IVec S64x24564 32 := broadcastInDim S64x24564 ![] bcast_S_S64x24564 main_c
  let main_v1 : IVec S64x24564 1 := cmpi .sge main_arg3 main_v0
  let main_c_0 : IVec S_ 32 := constantI S_ 32 21#32
  let main_v2 : IVec S64x24564 32 := broadcastInDim S64x24564 ![] bcast_S_S64x24564 main_c_0
  let main_v3 : IVec S64x24564 1 := cmpi .slt main_arg3 main_v2
  let main_v4 : IVec S64x24564 1 := andi main_v1 main_v3
  let main_c_1 : IVec S_ 1 := constantI S_ 1 1#1
  let main_v5 : IVec S_ 1 := (fun x v => Host.reduce IntOp.andi x v reducesTo_S64x24564_S_d0_1 h_S_) main_v4 main_c_1
  let main_v6 : FVec F S64x24564x21 .f32 := Host.absf main_arg2
  let main_cst : FVec F S_ .f32 := constant S_ .f32 0x7F800000#32
  let main_v7 : FVec F S64x24564x21 .f32 := broadcastInDim S64x24564x21 ![] bcast_S_S64x24564x21 main_cst
  let main_v8 : IVec S64x24564x21 1 := cmpf .olt main_v6 main_v7
  let main_c_2 : IVec S_ 1 := constantI S_ 1 1#1
  let main_v9 : IVec S_ 1 := (fun x v => Host.reduce IntOp.andi x v reducesTo_S64x24564x21_S_d0_1_2 h_S_) main_v8 main_c_2
  let main_v10 : IVec S_ 1 := andi main_v5 main_v9
  main_v10
-- ==== Pre_select_pre.lean ====
abbrev S64x24576 : Shape := ⟨2, ![64, 24576]⟩
abbrev S64x8 : Shape := ⟨2, ![64, 8]⟩
abbrev S_ : Shape := ⟨0, ![]⟩
abbrev S64 : Shape := ⟨1, ![64]⟩
abbrev S64x1 : Shape := ⟨2, ![64, 1]⟩

class Facts : Prop where
  bcast_S_S64x24576 : S_.BroadcastsInDim S64x24576 (![] : Fin 0 → Fin S64x24576.rank)
  natLt_1_32 : 1 < 32
  reducesTo_S64x24576_S64_d1 : S64x24576.ReducesTo [1] S64
  h_S_ : 0 < S_.numel
  reducesTo_S64x24576_S_d0_1 : S64x24576.ReducesTo [0, 1] S_
  slices_S64x8_S64x1_0_0 : S64x8.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_

variable [Facts]

def fn {F : FTy → Type} [FloatOps F] (main_arg0 : IVec S64x24576 32) (main_arg1 : FVec F S64x8 .f32) : IVec S_ 1 :=
  let main_c : IVec S_ 32 := constantI S_ 32 0#32
  let main_v0 : IVec S64x24576 32 := broadcastInDim S64x24576 ![] bcast_S_S64x24576 main_c
  let main_v1 : IVec S64x24576 1 := cmpi .sge main_arg0 main_v0
  let main_v2 : IVec S64x24576 32 := (extui 32 · natLt_1_32) main_v1
  let main_c_0 : IVec S_ 32 := constantI S_ 32 0#32
  let main_v3 : IVec S64 32 := (fun x v => Host.reduce IntOp.addi x v reducesTo_S64x24576_S64_d1 h_S_) main_v2 main_c_0
  let main_c_1 : IVec S_ 32 := constantI S_ 32 2139095040#32
  let main_v4 : IVec S64x24576 32 := broadcastInDim S64x24576 ![] bcast_S_S64x24576 main_c_1
  let main_v5 : IVec S64x24576 1 := cmpi .sle main_arg0 main_v4
  let main_c_2 : IVec S_ 1 := constantI S_ 1 1#1
  let main_v6 : IVec S_ 1 := (fun x v => Host.reduce IntOp.andi x v reducesTo_S64x24576_S_d0_1 h_S_) main_v5 main_c_2
  let main_v7 : FVec F S64x1 .f32 := (extractStridedSlice S64x1 ![0, 0] · slices_S64x8_S64x1_0_0) main_arg1
  let main_v8 : FVec F S64 .f32 := shapeCast S64 main_v7 shapeCasts_S64x1_S64
  let main_c_3 : IVec S_ 32 := constantI S_ 32 24564#32
  let main_v9 : IVec S64 32 := broadcastInDim S64 ![] bcast_S_S64 main_c_3
  let main_v10 : IVec S64 32 := subi main_v9 main_v3
  let main_v11 : FVec F S64 .f32 := sitofp .f32 main_v10
  let main_v12 : IVec S64 1 := cmpf .ole main_v8 main_v11
  let main_c_4 : IVec S_ 1 := constantI S_ 1 1#1
  let main_v13 : IVec S_ 1 := (fun x v => Host.reduce IntOp.andi x v reducesTo_S64_S_d0 h_S_) main_v12 main_c_4
  let main_v14 : IVec S_ 1 := andi main_v6 main_v13
  main_v14
-- ==== Main.lean ====
abbrev S64x24564x4 : Shape := ⟨3, ![64, 24564, 4]⟩
abbrev S64x24564x21 : Shape := ⟨3, ![64, 24564, 21]⟩
abbrev S64x24564 : Shape := ⟨2, ![64, 24564]⟩
abbrev S64x98256 : Shape := ⟨2, ![64, 98256]⟩
abbrev S64x515844 : Shape := ⟨2, ![64, 515844]⟩
abbrev S2688x128 : Shape := ⟨2, ![2688, 128]⟩
abbrev S_ : Shape := ⟨0, ![]⟩
abbrev S128x2688 : Shape := ⟨2, ![128, 2688]⟩
abbrev S128x512 : Shape := ⟨2, ![128, 512]⟩
abbrev S64x24576 : Shape := ⟨2, ![64, 24576]⟩
abbrev S64x8 : Shape := ⟨2, ![64, 8]⟩
abbrev S64x128 : Shape := ⟨2, ![64, 128]⟩
abbrev S64x2688 : Shape := ⟨2, ![64, 2688]⟩
abbrev S64x512 : Shape := ⟨2, ![64, 512]⟩
abbrev S64 : Shape := ⟨1, ![64]⟩
abbrev S64x1 : Shape := ⟨2, ![64, 1]⟩

abbrev nBuf : Space → Nat
  | .hbm => 33
  | .vmem => 17
  | .smem => 0
  | _ => 0

abbrev bufTy : (tb : Table) → Fin (tcTables nBuf tb) → BufTy
  | .hbm, ⟨0, _⟩ => ⟨S64x24564x4, .f32⟩
  | .hbm, ⟨1, _⟩ => ⟨S64x24564x4, .f32⟩
  | .hbm, ⟨2, _⟩ => ⟨S64x24564x21, .f32⟩
  | .hbm, ⟨3, _⟩ => ⟨S64x24564, .i32⟩
  | .hbm, ⟨4, _⟩ => ⟨S64x98256, .f32⟩
  | .hbm, ⟨5, _⟩ => ⟨S64x98256, .f32⟩
  | .hbm, ⟨6, _⟩ => ⟨S64x515844, .f32⟩
  | .hbm, ⟨7, _⟩ => ⟨S2688x128, .i32⟩
  | .hbm, ⟨8, _⟩ => ⟨S2688x128, .i32⟩
  | .hbm, ⟨9, _⟩ => ⟨S_, .i32⟩
  | .hbm, ⟨10, _⟩ => ⟨S2688x128, .i32⟩
  | .hbm, ⟨11, _⟩ => ⟨S2688x128, .i32⟩
  | .hbm, ⟨12, _⟩ => ⟨S2688x128, .i1⟩
  | .hbm, ⟨13, _⟩ => ⟨S2688x128, .f32⟩
  | .hbm, ⟨14, _⟩ => ⟨S2688x128, .bf16⟩
  | .hbm, ⟨15, _⟩ => ⟨S128x2688, .i32⟩
  | .hbm, ⟨16, _⟩ => ⟨S128x2688, .i32⟩
  | .hbm, ⟨17, _⟩ => ⟨S_, .i32⟩
  | .hbm, ⟨18, _⟩ => ⟨S128x2688, .i32⟩
  | .hbm, ⟨19, _⟩ => ⟨S128x2688, .i32⟩
  | .hbm, ⟨20, _⟩ => ⟨S128x2688, .i1⟩
  | .hbm, ⟨21, _⟩ => ⟨S128x2688, .f32⟩
  | .hbm, ⟨22, _⟩ => ⟨S128x2688, .bf16⟩
  | .hbm, ⟨23, _⟩ => ⟨S128x512, .i32⟩
  | .hbm, ⟨24, _⟩ => ⟨S128x512, .i32⟩
  | .hbm, ⟨25, _⟩ => ⟨S_, .i32⟩
  | .hbm, ⟨26, _⟩ => ⟨S128x512, .i32⟩
  | .hbm, ⟨27, _⟩ => ⟨S128x512, .i32⟩
  | .hbm, ⟨28, _⟩ => ⟨S128x512, .i1⟩
  | .hbm, ⟨29, _⟩ => ⟨S128x512, .f32⟩
  | .hbm, ⟨30, _⟩ => ⟨S128x512, .bf16⟩
  | .hbm, ⟨31, _⟩ => ⟨S64x24576, .f32⟩
  | .hbm, ⟨32, _⟩ => ⟨S64x8, .f32⟩
  | .local _ .vmem, ⟨0, _⟩ => ⟨S64x128, .i32⟩
  | .local _ .vmem, ⟨1, _⟩ => ⟨S64x128, .i32⟩
  | .local _ .vmem, ⟨2, _⟩ => ⟨S64x2688, .f32⟩
  | .local _ .vmem, ⟨3, _⟩ => ⟨S64x2688, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S2688x128, .bf16⟩
  | .local _ .vmem, ⟨9, _⟩ => ⟨S128x2688, .bf16⟩
  | .local _ .vmem, ⟨10, _⟩ => ⟨S128x512, .bf16⟩
  | .local _ .vmem, ⟨11, _⟩ => ⟨S64x128, .f32⟩
  | .local _ .vmem, ⟨12, _⟩ => ⟨S64x128, .f32⟩
  | .local _ .vmem, ⟨13, _⟩ => ⟨S64x8, .f32⟩
  | .local _ .vmem, ⟨14, _⟩ => ⟨S64x128, .f32⟩
  | .local _ .vmem, ⟨15, _⟩ => ⟨S64x128, .f32⟩
  | .local _ .vmem, ⟨16, _⟩ => ⟨S64x512, .f32⟩
  | _, _ => ⟨S64x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![192], ![false]⟩

def k0_cond2 (i : grid0.Coords) : BitVec 1 :=
  let arg0 : BitVec 32 := BitVec.ofNat 32 (i 0).val
  let c191_i32 : BitVec 32 := 191#32
  let v117 : BitVec 1 := Scalar.cmpi .eq arg0 c191_i32
  let v118 : BitVec 32 := Scalar.extui v117
  let c0_i32_49 : BitVec 32 := 0#32
  let v119 : BitVec 1 := Scalar.cmpi .ne v118 c0_i32_49
  v119

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2688x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2688 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MainRefIdeal.lean ====
abbrev S64x24564x4 : Shape := ⟨3, ![64, 24564, 4]⟩
abbrev S64x24564x21 : Shape := ⟨3, ![64, 24564, 21]⟩
abbrev S64x24564 : Shape := ⟨2, ![64, 24564]⟩
abbrev S_ : Shape := ⟨0, ![]⟩
abbrev S64 : Shape := ⟨1, ![64]⟩
abbrev S64x24564x1 : Shape := ⟨3, ![64, 24564, 1]⟩
abbrev S64x24564x1x1 : Shape := ⟨4, ![64, 24564, 1, 1]⟩
abbrev S1 : Shape := ⟨1, ![1]⟩
abbrev S1x1x1x1 : Shape := ⟨4, ![1, 1, 1, 1]⟩
abbrev S64x24576 : Shape := ⟨2, ![64, 24576]⟩
abbrev S64x1 : Shape := ⟨2, ![64, 1]⟩
abbrev S64x3 : Shape := ⟨2, ![64, 3]⟩
abbrev S64x8 : Shape := ⟨2, ![64, 8]⟩

abbrev nBuf : Space → Nat
  | .hbm => 93
  | .vmem => 0
  | .smem => 0
  | _ => 0

abbrev bufTy : (tb : Table) → Fin (tcTables nBuf tb) → BufTy
  | .hbm, ⟨0, _⟩ => ⟨S64x24564x4, .f32⟩
  | .hbm, ⟨1, _⟩ => ⟨S64x24564x4, .f32⟩
  | .hbm, ⟨2, _⟩ => ⟨S64x24564x21, .f32⟩
  | .hbm, ⟨3, _⟩ => ⟨S64x24564, .i32⟩
  | .hbm, ⟨4, _⟩ => ⟨S_, .i32⟩
  | .hbm, ⟨5, _⟩ => ⟨S64x24564, .i32⟩
  | .hbm, ⟨6, _⟩ => ⟨S64x24564, .i1⟩
  | .hbm, ⟨7, _⟩ => ⟨S64x24564, .f32⟩
  | .hbm, ⟨8, _⟩ => ⟨S_, .f32⟩
  | .hbm, ⟨9, _⟩ => ⟨S64, .f32⟩
  | .hbm, ⟨10, _⟩ => ⟨S64x24564x1, .i1⟩
  | .hbm, ⟨11, _⟩ => ⟨S64x24564x1, .f32⟩
  | .hbm, ⟨12, _⟩ => ⟨S64x24564x4, .f32⟩
  | .hbm, ⟨13, _⟩ => ⟨S64x24564x4, .f32⟩
  | .hbm, ⟨14, _⟩ => ⟨S_, .f32⟩
  | .hbm, ⟨15, _⟩ => ⟨S64x24564x4, .f32⟩
  | .hbm, ⟨16, _⟩ => ⟨S64x24564x4, .i1⟩
  | .hbm, ⟨17, _⟩ => ⟨S_, .f32⟩
  | .hbm, ⟨18, _⟩ => ⟨S64x24564x4, .f32⟩
  | .hbm, ⟨19, _⟩ => ⟨S64x24564x4, .f32⟩
  | .hbm, ⟨20, _⟩ => ⟨S64x24564x4, .f32⟩
  | .hbm, ⟨21, _⟩ => ⟨S_, .f32⟩
  | .hbm, ⟨22, _⟩ => ⟨S64x24564x4, .f32⟩
  | .hbm, ⟨23, _⟩ => ⟨S64x24564x4, .f32⟩
  | .hbm, ⟨24, _⟩ => ⟨S64x24564x4, .f32⟩
  | .hbm, ⟨25, _⟩ => ⟨S64x24564x4, .f32⟩
  | .hbm, ⟨26, _⟩ => ⟨S64x24564x4, .f32⟩
  | .hbm, ⟨27, _⟩ => ⟨S_, .f32⟩
  | .hbm, ⟨28, _⟩ => ⟨S64, .f32⟩
  | .hbm, ⟨29, _⟩ => ⟨S64x24564x21, .f32⟩
  | .hbm, ⟨30, _⟩ => ⟨S_, .f32⟩
  | .hbm, ⟨31, _⟩ => ⟨S64x24564, .f32⟩
  | .hbm, ⟨32, _⟩ => ⟨S64x24564, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x24564, .i32⟩
  | .hbm, ⟨37, _⟩ => ⟨S64x24564, .i32⟩
  | .hbm, ⟨38, _⟩ => ⟨S_, .i32⟩
  | .hbm, ⟨39, _⟩ => ⟨S64x24564, .i32⟩
  | .hbm, ⟨40, _⟩ => ⟨S64x24564, .i32⟩
  | .hbm, ⟨41, _⟩ => ⟨S64x24564x1, .i32⟩
  | .hbm, ⟨42, _⟩ => ⟨S_, .i32⟩
  | .hbm, ⟨43, _⟩ => ⟨S64x24564x1, .i32⟩
  | .hbm, ⟨44, _⟩ => ⟨S64x24564x1, .i1⟩
  | .hbm, ⟨45, _⟩ => ⟨S_, .i32⟩
  | .hbm, ⟨46, _⟩ => ⟨S64x24564x1, .i32⟩
  | .hbm, ⟨47, _⟩ => ⟨S64x24564x1, .i32⟩
  | .hbm, ⟨48, _⟩ => ⟨S64x24564x1, .i32⟩
  | .hbm, ⟨49, _⟩ => ⟨S64x24564x1x1, .i32⟩
  | .hbm, ⟨50, _⟩ => ⟨S1, .i32⟩
  | .hbm, ⟨51, _⟩ => ⟨S_, .i32⟩
  | .hbm, ⟨52, _⟩ => ⟨S64x24564x1x1, .i32⟩
  | .hbm, ⟨53, _⟩ => ⟨S64x24564x1x1, .i1⟩
  | .hbm, ⟨54, _⟩ => ⟨S1x1x1x1, .i32⟩
  | .hbm, ⟨55, _⟩ => ⟨S64x24564x1x1, .i32⟩
  | .hbm, ⟨56, _⟩ => ⟨S64x24564x1x1, .i1⟩
  | .hbm, ⟨57, _⟩ => ⟨S64x24564x1x1, .i1⟩
  | .hbm, ⟨58, _⟩ => ⟨S_, .i1⟩
  | .hbm, ⟨59, _⟩ => ⟨S64x24564x1, .i1⟩
  | .hbm, ⟨60, _⟩ => ⟨S64x24564x1, .f32⟩
  | .hbm, ⟨61, _⟩ => ⟨S_, .f32⟩
  | .hbm, ⟨62, _⟩ => ⟨S64x24564x1, .f32⟩
  | .hbm, ⟨63, _⟩ => ⟨S64x24564x1, .f32⟩
  | .hbm, ⟨64, _⟩ => ⟨S64x24564, .f32⟩
  | .hbm, ⟨65, _⟩ => ⟨S_, .i32⟩
  | .hbm, ⟨66, _⟩ => ⟨S64x24564, .i32⟩
  | .hbm, ⟨67, _⟩ => ⟨S64x24564, .i1⟩
  | .hbm, ⟨68, _⟩ => ⟨S64x24564, .f32⟩
  | .hbm, ⟨69, _⟩ => ⟨S_, .f32⟩
  | .hbm, ⟨70, _⟩ => ⟨S_, .f32⟩
  | .hbm, ⟨71, _⟩ => ⟨S64x24564, .f32⟩
  | .hbm, ⟨72, _⟩ => ⟨S64x24564, .f32⟩
  | .hbm, ⟨73, _⟩ => ⟨S_, .f32⟩
  | .hbm, ⟨74, _⟩ => ⟨S_, .f32⟩
  | .hbm, ⟨75, _⟩ => ⟨S64x24564, .f32⟩
  | .hbm, ⟨76, _⟩ => ⟨S64x24564, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S_, .f32⟩
  | .hbm, ⟨81, _⟩ => ⟨S64x24564, .f32⟩
  | .hbm, ⟨82, _⟩ => ⟨S64x24564, .f32⟩
  | .hbm, ⟨83, _⟩ => ⟨S_, .f32⟩
  | .hbm, ⟨84, _⟩ => ⟨S_, .f32⟩
  | .hbm, ⟨85, _⟩ => ⟨S64x24576, .f32⟩
  | .hbm, ⟨86, _⟩ => ⟨S64x1, .f32⟩
  | .hbm, ⟨87, _⟩ => ⟨S64x1, .f32⟩
  | .hbm, ⟨88, _⟩ => ⟨S64x1, .f32⟩
  | .hbm, ⟨89, _⟩ => ⟨S64x3, .f32⟩
  | .hbm, ⟨90, _⟩ => ⟨S_, .i32⟩
  | .hbm, ⟨91, _⟩ => ⟨S_, .f32⟩
  | .hbm, ⟨92, _⟩ => ⟨S64x8, .f32⟩
  | _, _ => ⟨S64x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_v23 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v24 : Ref sig .tc := ⟨.hbm, 63, rfl⟩
abbrev main_v25 : Ref sig .tc := ⟨.hbm, 64, rfl⟩
abbrev main_c_7 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_8 : Ref sig .tc := ⟨.hbm, 69, rfl⟩
abbrev main_call3_v0 : Ref sig .tc := ⟨.hbm, 70, rfl⟩
abbrev main_call3_v1 : Ref sig .tc := ⟨.hbm, 71, rfl⟩
abbrev main_v29 : Ref sig .tc := ⟨.hbm, 72, rfl⟩
abbrev main_cst_9 : Ref sig .tc := ⟨.hbm, 73, rfl⟩
abbrev main_call4_v0 : Ref sig .tc := ⟨.hbm, 74, rfl⟩
abbrev main_call4_v1 : Ref sig .tc := ⟨.hbm, 75, rfl⟩
abbrev main_v30 : Ref sig .tc := ⟨.hbm, 76, rfl⟩
abbrev main_cst_10 : Ref sig .tc := ⟨.hbm, 77, rfl⟩
abbrev main_v31 : Ref sig .tc := ⟨.hbm, 78, rfl⟩
abbrev main_cst_11 : Ref sig .tc := ⟨.hbm, 79, rfl⟩
abbrev main_call5_v0 : Ref sig .tc := ⟨.hbm, 80, rfl⟩
abbrev main_call5_v1 : Ref sig .tc := ⟨.hbm, 81, rfl⟩
abbrev main_v32 : Ref sig .tc := ⟨.hbm, 82, rfl⟩
abbrev main_cst_12 : Ref sig .tc := ⟨.hbm, 83, rfl⟩
abbrev main_call6_v0 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_c_13 : Ref sig .tc := ⟨.hbm, 90, rfl⟩
abbrev main_call7_v0 : Ref sig .tc := ⟨.hbm, 91, rfl⟩
abbrev main_v38 : Ref sig .tc := ⟨.hbm, 92, rfl⟩

abbrev nD : Nat := 1
abbrev τ : Topo := Topo.v7x

variable {F : FTy → Type} [FloatOps F]
-- ==== Select.lean ====
abbrev S64x24576 : Shape := ⟨2, ![64, 24576]⟩
abbrev S64x8 : Shape := ⟨2, ![64, 8]⟩
abbrev S1x1 : Shape := ⟨2, ![1, 1]⟩
abbrev S64x1 : Shape := ⟨2, ![64, 1]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S64x24576, .i32⟩
  | .hbm, ⟨1, _⟩ => ⟨S64x8, .f32⟩
  | .hbm, ⟨2, _⟩ => ⟨S1x1, .f32⟩
  | .hbm, ⟨3, _⟩ => ⟨S_, .f32⟩
  | .local _ .vmem, ⟨0, _⟩ => ⟨S64x24576, .i32⟩
  | .local _ .vmem, ⟨1, _⟩ => ⟨S64x8, .f32⟩
  | .local _ .vmem, ⟨2, _⟩ => ⟨S1x1, .f32⟩
  | _, _ => ⟨S64x24576, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c31_i32 : BitVec 32 := 31#32
  let v13 : BitVec 32 := Scalar.addi c0_i32_4 c31_i32
  let c1_i32 : BitVec 32 := 1#32
  ⟨c0_i32_4, v13, c1_i32⟩
abbrev stage0_0 : Fin 1 → Memref sig .tc .vmem S64x24576 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SelectRefIdeal.lean ====
abbrev S64x24576 : Shape := ⟨2, ![64, 24576]⟩
abbrev S64x8 : Shape := ⟨2, ![64, 8]⟩
abbrev S64x1 : Shape := ⟨2, ![64, 1]⟩
abbrev S64 : Shape := ⟨1, ![64]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x24576, .i32⟩
  | .hbm, ⟨1, _⟩ => ⟨S64x8, .f32⟩
  | .hbm, ⟨2, _⟩ => ⟨S64x1, .f32⟩
  | .hbm, ⟨3, _⟩ => ⟨S64, .f32⟩
  | .hbm, ⟨4, _⟩ => ⟨S_, .i32⟩
  | .hbm, ⟨5, _⟩ => ⟨S64x24576, .i32⟩
  | .hbm, ⟨6, _⟩ => ⟨S64x24576, .i1⟩
  | .hbm, ⟨7, _⟩ => ⟨S64x24576, .f32⟩
  | .hbm, ⟨8, _⟩ => ⟨S_, .f32⟩
  | .hbm, ⟨9, _⟩ => ⟨S_, .f32⟩
  | .hbm, ⟨10, _⟩ => ⟨S64x24576, .f32⟩
  | .hbm, ⟨11, _⟩ => ⟨S64x24576, .f32⟩
  | .hbm, ⟨12, _⟩ => ⟨S64x24576, .f32⟩
  | .hbm, ⟨13, _⟩ => ⟨S64x24576, .i32⟩
  | .hbm, ⟨14, _⟩ => ⟨S64x24576, .f32⟩
  | .hbm, ⟨15, _⟩ => ⟨S64x24576, .i32⟩
  | .hbm, ⟨16, _⟩ => ⟨S64x24576, .i32⟩
  | .hbm, ⟨17, _⟩ => ⟨S64x24576, .i32⟩
  | .hbm, ⟨18, _⟩ => ⟨S64x24576, .i32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .i32⟩
  | .hbm, ⟨23, _⟩ => ⟨S64x1, .i32⟩
  | .hbm, ⟨24, _⟩ => ⟨S64x24576, .i32⟩
  | .hbm, ⟨25, _⟩ => ⟨S64x24576, .i1⟩
  | .hbm, ⟨26, _⟩ => ⟨S_, .f32⟩
  | .hbm, ⟨27, _⟩ => ⟨S_, .f32⟩
  | .hbm, ⟨28, _⟩ => ⟨S64x24576, .f32⟩
  | .hbm, ⟨29, _⟩ => ⟨S64x24576, .f32⟩
  | .hbm, ⟨30, _⟩ => ⟨S_, .f32⟩
  | .hbm, ⟨31, _⟩ => ⟨S_, .f32⟩
  | .hbm, ⟨32, _⟩ => ⟨S64x1, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S64x1, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S64x24576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_v1_0 : Ref sig .tc := ⟨.hbm, 14, rfl⟩
abbrev main_v7 : Ref sig .tc := ⟨.hbm, 15, rfl⟩
abbrev main_call2_v0 : Ref sig .tc := ⟨.hbm, 16, rfl⟩
abbrev main_call2_v1_0 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_call3_v0 : Ref sig .tc := ⟨.hbm, 27, rfl⟩
abbrev main_call3_v1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.MainBody.lean ====
module

public import proofs.«01_k».proof.Proof.Gen.MainIdeal.Frame
public import proofs.«01_k».proof.Proof.Gen.MainIdeal.Skeleton
public import Idealize.ShloMosaic.Lib.Pipeline.Value
public import Idealize.ShloMosaic.Lib.Tactic
public import Idealize.ShloMosaic.Lib.WordCmp
public import Idealize.ShloMosaic.Lib.VecWindow
public import Idealize.ShloMosaic.Lib.Pipeline.ValueKit.Acc

/-! # One grid point of the main pass

The body of the main pass, run on whole staging buffers: what each buffer holds afterwards, as a
function of what it held before. -/

@[expose] public section

set_option maxRecDepth 16384

noncomputable section

namespace Cert.MainBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MainIdeal Cert.MainIdeal.Gen

variable {F : FTy → Type} [FloatOps F]

local notation "𝕄" => MT nD τ sig Unit (Elt F) ℕ (UR sig nD τ) ℕ

/-- The grid point is the first. -/
abbrev First (i : grid0.Coords) : Prop :=
  (Scalar.cmpi .ne (Scalar.extui (Scalar.cmpi .eq (BitVec.ofNat 32 (i 0).val) 0#32)) 0#32) = 1#1

/-- The grid point is the last. -/
abbrev Last (i : grid0.Coords) : Prop := k0_cond2 i = 1#1

/-- A point's coordinate is its number. -/
theorem coord (t : Fin cfg0.N) : (grid0.coords t 0).val = t.val := by
  have e0 : (grid0.coords t 0).val = t.val / 1 % 192 := Pipeline.Grid.coords_val t 0 (by decide) rfl
  have ht : t.val < 192 := Nat.lt_of_lt_of_eq t.isLt N_0
  omega

theorem first_iff : ∀ t : Fin cfg0.N, First (grid0.coords t) ↔ t.val % 192 = 0 :=
  (fun t => by
    have ht : t.val < 192 := Nat.lt_of_lt_of_eq t.isLt N_0
    have e0 : (grid0.coords t 0).val = t.val / 1 % 192 := Pipeline.Grid.coords_val t 0 (by decide) rfl
    simp only [First, e0]
    word_cmp
   : ∀ t : Fin grid0.N, First (grid0.coords t) ↔ t.val % 192 = 0)

theorem last_iff : ∀ t : Fin cfg0.N, Last (grid0.coords t) ↔ t.val % 192 = 191 :=
  (fun t => by
    have ht : t.val < 192 := Nat.lt_of_lt_of_eq t.isLt N_0
    have e0 : (grid0.coords t 0).val = t.val / 1 % 192 := Pipeline.Grid.coords_val t 0 (by decide) rfl
    simp only [Last, k0_cond2, e0]
    word_cmp
   : ∀ t : Fin grid0.N, Last (grid0.coords t) ↔ t.val % 192 = 191)

/-- The classification losses of the point's block. -/
def loss (i : grid0.Coords) (x0 : Vec F S64x128 .i32) (x1 : Vec F S64x2688 .f32) (x4 : Vec F S2688x128 .bf16)
    (x5 : Vec F S128x2688 .bf16) : FVec F S64x128 .f32 :=
  k0_pay13 x0 (k0_pay8 x1) (iota .tc S64x2688 32 [1] iota_S64x2688_d1_w32) (k0_pay9 i) k0_pay10 k0_pay11 k0_pay12 0#32 x4 x5

/-- The selection keys of the point's block. -/
def keys (i : grid0.Coords) (x0 : Vec F S64x128 .i32) (x1 : Vec F S64x2688 .f32) (x4 : Vec F S2688x128 .bf16)
    (x5 : Vec F S128x2688 .bf16) : FVec F S64x128 .f32 :=
  k0_pay14 x0 (k0_pay5 i) (k0_pay6 i x0) (k0_pay8 x1) (iota .tc S64x2688 32 [1] iota_S64x2688_d1_w32) (k0_pay9 i) k0_pay10 k0_pay11 k0_pay12 0#32 x4 x5

open Classical in
/-- The count of positives after the point. -/
def next0 (i : grid0.Coords) (x0 : Vec F S64x128 .i32) (s : Vec F S64x128 .f32) : FVec F S64x128 .f32 :=
  k0_pay17 (k0_pay7 i x0) (if First i then k0_pay2 else s)

open Classical in
/-- The sum of the positives' losses after the point. -/
def next1 (i : grid0.Coords) (x0 : Vec F S64x128 .i32) (x1 : Vec F S64x2688 .f32) (x4 : Vec F S2688x128 .bf16)
    (x5 : Vec F S128x2688 .bf16) (s : Vec F S64x128 .f32) : FVec F S64x128 .f32 :=
  k0_pay18 (k0_pay6 i x0) (loss i x0 x1 x4 x5) (if First i then k0_pay3 else s)

open Classical in
/-- The sum of the positives' localisation losses after the point. -/
def next2 (i : grid0.Coords) (x0 : Vec F S64x128 .i32) (x2 x3 : Vec F S64x512 .f32) (x6 : Vec F S128x512 .bf16)
    (s : Vec F S64x512 .f32) : FVec F S64x512 .f32 :=
  k0_pay16 (k0_pay7 i x0) (k0_pay15 x2) x3 x6 (if First i then k0_pay4 else s)

/-- The origin of a rank-two block. -/
theorem hz : (![0, 0] : Fin 2 → Nat) = fun _ => 0 := funext fun a => by fin_cases a <;> rfl

open Classical in
set_option maxHeartbeats 4000000 in
/-- The body on whole buffers. -/
theorem run (c : Dev nD) (i : grid0.Coords) (arg1 : Memref sig .tc .vmem S64x128 .i32) (harg1 : arg1.IsWhole) (arg2 : Memref sig .tc .vmem S64x2688 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S2688x128 .bf16) (harg5 : arg5.IsWhole) (arg6 : Memref sig .tc .vmem S128x2688 .bf16) (harg6 : arg6.IsWhole) (arg7 : Memref sig .tc .vmem S128x512 .bf16) (harg7 : arg7.IsWhole) (arg8 : Memref sig .tc .vmem S64x128 .f32) (harg8 : arg8.IsWhole) (arg9 : Memref sig .tc .vmem S64x8 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole)
    (x0 : Vec F S64x128 .i32) (x1 : Vec F S64x2688 .f32) (x2 : Vec F S64x512 .f32) (x3 : Vec F S64x512 .f32) (x4 : Vec F S2688x128 .bf16) (x5 : Vec F S128x2688 .bf16) (x6 : Vec F S128x512 .bf16) (x7 : Vec F S64x128 .f32) (x8 : Vec F S64x8 .f32) (xs0 : Vec F S64x128 .f32) (xs1 : Vec F S64x128 .f32) (xs2 : Vec F S64x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
              ∗ owns (c : Thread nD τ) arg8 fullShare (keys i x0 x1 x4 x5)
              ∗ owns (c : Thread nD τ) arg9 fullShare (if Last i then k0_pay1 (next0 i x0 xs0) (next1 i x0 x1 x4 x5 xs1) (next2 i x0 x2 x3 x6 xs2) else x8)
              ∗ owns (c : Thread nD τ) arg10 fullShare (next0 i x0 xs0) ∗ owns (c : Thread nD τ) arg11 fullShare (next1 i x0 x1 x4 x5 xs1) ∗ owns (c : Thread nD τ) arg12 fullShare (next2 i x0 x2 x3 x6 xs2)) -∗ K ⟨⟩))
          ⊢ wp frame (wpE (defs₀ (F := F)) Variants.none c none) E (cc0__main_pass_body i arg1 harg1 arg2 harg2 arg3 harg3 arg4 harg4 arg5 harg5 arg6 harg6 arg7 harg7 arg8 harg8 arg9 harg9 arg10 harg10 arg11 harg11 arg12 harg12) K := by
  simp only [cc0__main_pass_body_eq_skeleton]; unfold cc0__main_pass_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, %hf8, H8⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0; obtain rfl := harg11.eq_unread hfs1; obtain rfl := harg12.eq_unread hfs2
  by_cases hc0 : First i <;> by_cases hc1 : Last i
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      rotate_left
      · iexact H7
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_pos hc1]
    isplitl [H8]
    · iexists _; isplitr
      rotate_left
      · iexact H8
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_pos hc1]
    isplitl [HS0]
    · iexists _; isplitr
      rotate_left
      · iexact HS0
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_pos hc1]
    isplitl [HS1]
    · iexists _; isplitr
      rotate_left
      · iexact HS1
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_pos hc1]
    iexists _; isplitr
    rotate_left
    · iexact HS2
    ipureintro; refine (View.read_writes_full _ _ _ _ _).trans ?_
    sl_unfold_words
    simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_pos hc1]
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      rotate_left
      · iexact H7
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_neg hc1]
    isplitl [H8]
    · iexists _; isplitr
      rotate_left
      · iexact H8
      ipureintro; rw [if_neg hc1]; exact harg9.read_unread _
    isplitl [HS0]
    · iexists _; isplitr
      rotate_left
      · iexact HS0
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_neg hc1]
    isplitl [HS1]
    · iexists _; isplitr
      rotate_left
      · iexact HS1
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_neg hc1]
    iexists _; isplitr
    rotate_left
    · iexact HS2
    ipureintro; refine (View.read_writes_full _ _ _ _ _).trans ?_
    sl_unfold_words
    simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_pos hc0, if_neg hc1]
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      rotate_left
      · iexact H7
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_pos hc1]
    isplitl [H8]
    · iexists _; isplitr
      rotate_left
      · iexact H8
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_pos hc1]
    isplitl [HS0]
    · iexists _; isplitr
      rotate_left
      · iexact HS0
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_pos hc1]
    isplitl [HS1]
    · iexists _; isplitr
      rotate_left
      · iexact HS1
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_pos hc1]
    iexists _; isplitr
    rotate_left
    · iexact HS2
    ipureintro; refine (View.read_writes_full _ _ _ _ _).trans ?_
    sl_unfold_words
    simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_pos hc1]
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      rotate_left
      · iexact H7
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_neg hc1]
    isplitl [H8]
    · iexists _; isplitr
      rotate_left
      · iexact H8
      ipureintro; rw [if_neg hc1]; exact harg9.read_unread _
    isplitl [HS0]
    · iexists _; isplitr
      rotate_left
      · iexact HS0
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_neg hc1]
    isplitl [HS1]
    · iexists _; isplitr
      rotate_left
      · iexact HS1
      ipureintro; refine (View.read_writes_full _ _ _ _ _).trans ?_
      sl_unfold_words
      simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_neg hc1]
    iexists _; isplitr
    rotate_left
    · iexact HS2
    ipureintro; refine (View.read_writes_full _ _ _ _ _).trans ?_
    sl_unfold_words
    simp only [View.read_writes_full, View.readCov_full (s := S64x128), View.readCov_full (s := S64x512), View.readAt_eq_ld, View.ld_unit_zero (S := S64x128) hz,
        View.ld_unit_zero (S := S64x2688) hz, View.ld_unit_zero (S := S64x512) hz, View.ld_unit_zero (S := S2688x128) hz,
        View.ld_unit_zero (S := S128x2688) hz, View.ld_unit_zero (S := S128x512) hz,
        harg1.read_unread, harg2.read_unread, harg3.read_unread, harg4.read_unread, harg5.read_unread, harg6.read_unread,
        harg7.read_unread, harg10.read_unread, harg11.read_unread, harg12.read_unread, keys, loss, next0, next1, next2, if_neg hc0, if_neg hc1]

end Cert.MainBody

end
-- ==== Proof.MainRun.lean ====
module

public import proofs.«01_k».proof.Proof.MainBody
public import Idealize.ShloMosaic.Lib.Pipeline.ArrRel

/-! # The main pass run

The run of the whole main pass, stated with three relations: what the scratch buffers may hold before a
grid point, what a point may write to its block of the keys, and what the last point may write to the
row statistics. -/

@[expose] public section

set_option maxRecDepth 16384

noncomputable section

namespace Cert.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.MainIdeal Cert.MainIdeal.Gen Cert.MainBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer that held `d` once the block of point `t` has been fetched into it. -/
def seen (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The three relations and why a grid point keeps them. -/
structure Kept where
  /-- What the scratch buffers may hold before a point. -/
  scratch : Dev nD → ℕ → Vec F S64x128 .f32 → Vec F S64x128 .f32 → Vec F S64x512 .f32 → Prop
  /-- What a point may write to its block of the keys. -/
  keyBlock : Dev nD → Fin cfg0.N → Vec F S64x128 .f32 → Prop
  /-- What the last point may write to the statistics. -/
  stats : Dev nD → Vec F S64x8 .f32 → Prop
  zero : ∀ c s0 s1 s2, scratch c 0 s0 s1 s2
  step : ∀ c (t : Fin cfg0.N) d0 d1 d2 d3 d4 d5 d6 s0 s1 s2, scratch c t.val s0 s1 s2 →
    scratch c (t.val + 1) (next0 (grid0.coords t) (seen m c 0 t d0) s0)
        (next1 (grid0.coords t) (seen m c 0 t d0) (seen m c 1 t d1) (seen m c 4 t d4) (seen m c 5 t d5) s1)
        (next2 (grid0.coords t) (seen m c 0 t d0) (seen m c 2 t d2) (seen m c 3 t d3) (seen m c 6 t d6) s2)
      ∧ keyBlock c t (keys (grid0.coords t) (seen m c 0 t d0) (seen m c 1 t d1) (seen m c 4 t d4) (seen m c 5 t d5))
      ∧ (t.val % 192 = 191 → stats c (k0_pay1 (next0 (grid0.coords t) (seen m c 0 t d0) s0)
        (next1 (grid0.coords t) (seen m c 0 t d0) (seen m c 1 t d1) (seen m c 4 t d4) (seen m c 5 t d5) s1)
        (next2 (grid0.coords t) (seen m c 0 t d0) (seen m c 2 t d2) (seen m c 3 t d3) (seen m c 6 t d6) s2)))

/-- The scratch buffers. -/
abbrev acc0 : Memref sig .tc .vmem S64x128 .f32 := Memref.whole cc0_scratch0
abbrev acc1 : Memref sig .tc .vmem S64x128 .f32 := Memref.whole cc0_scratch1
abbrev acc2 : Memref sig .tc .vmem S64x512 .f32 := Memref.whole cc0_scratch2

variable {m} (k : Kept m)

/-- The scratch buffers before point `n`. -/
def held (c : Dev nD) (n : ℕ) : sProp 𝕄 :=
  iprop((∃ s0 s1 s2, ⌜k.scratch c n s0 s1 s2⌝ ∗ owns (c : Thread nD τ) acc0 fullShare s0
    ∗ owns (c : Thread nD τ) acc1 fullShare s1 ∗ owns (c : Thread nD τ) acc2 fullShare s2) ∗ (∃ r, prngReg c r))

/-- What the body may leave in each staging buffer. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => k.keyBlock c t X
  | 8 => fun t _ X => t.val % 192 = 191 → k.stats c X
  | ⟨_ + 9, h⟩ => absurd h (Nat.not_lt.2 (Nat.le_add_left _ _))

/-- The proof data of the region. -/
def rdat (c : Dev nD) : RDat τ (Elt F) Unit ℕ (UR sig nD τ) ℕ cfg0 c where
  A w := V m c (Pipeline.arrRef spec0 w)
  after := left k c
  Φ t := held k c t.val
  q _ := fullShare
  owed _ := 0

theorem A_eq (c : Dev nD) (w : Fin cfg0.W) : (rdat k c).A w = V m c (Pipeline.arrRef spec0 w) := by
  dsimp only [rdat]

theorem after_eq (c : Dev nD) : (rdat k c).after = left k c := by dsimp only [rdat]

theorem fetched_eq (c : Dev nD) (w : Fin cfg0.W) (t : Fin cfg0.N) (d) : (rdat k c).fetched w t d = seen m c w t d := by
  unfold RDat.fetched RDat.blockOf seen iblk; rw [A_eq]

theorem finds_clipped (c : Dev nD) (w : Fin cfg0.W) (h : ∀ t, (cfg0.win w).fetch t = true) (t : Fin cfg0.N) (Y)
    (hY : (rdat k c).Finds w t Y) : ∃ d, Y = seen m c w t d := by
  obtain ⟨d, hd⟩ := ((rdat k c).finds_of_fetch (h t) Y).mp hY
  exact ⟨d, hd.trans (fetched_eq k c w t d)⟩

theorem finds_kept (c : Dev nD) (w : Fin cfg0.W) (hw : (cfg0.win w).isOut = false) (hclip : ∀ t t', (cfg0.win w).index t = (cfg0.win w).index t' → (cfg0.win w).clip (cfg0.grid.coords t) = (cfg0.win w).clip (cfg0.grid.coords t'))
    (hk : ∀ t Y X, left k c w t Y X → X = Y) (t : Fin cfg0.N) (Y)
    (hY : (rdat k c).Finds w t Y) : ∃ d, Y = seen m c w t d := by
  obtain ⟨d, hd⟩ := (rdat k c).finds_in_eq_fetched w hw hclip (fun t Y X h => hk t Y X (by rwa [after_eq] at h)) t Y hY
  exact ⟨d, hd.trans (fetched_eq k c w t d)⟩

theorem finds_input (c : Dev nD) (t : Fin cfg0.N) (Y : (w : Fin cfg0.W) → (cfg0.win w).block.Idx → Elt F (cfg0.win w).elt)
    (hY : ∀ w, (rdat k c).Finds w t (Y w)) :
    (∃ d, Y 0 = seen m c 0 t d) ∧ (∃ d, Y 1 = seen m c 1 t d) ∧ (∃ d, Y 2 = seen m c 2 t d) ∧ (∃ d, Y 3 = seen m c 3 t d)
      ∧ (∃ d, Y 4 = seen m c 4 t d) ∧ (∃ d, Y 5 = seen m c 5 t d) ∧ (∃ d, Y 6 = seen m c 6 t d) :=
  ⟨finds_clipped k c 0 fetch0_0 t _ (hY 0), finds_clipped k c 1 fetch0_1 t _ (hY 1), finds_clipped k c 2 fetch0_2 t _ (hY 2),
    finds_clipped k c 3 fetch0_3 t _ (hY 3), finds_kept k c 4 rfl (fun _ _ _ => rfl) (fun _ _ _ h => h) t _ (hY 4),
    finds_kept k c 5 rfl (fun _ _ _ => rfl) (fun _ _ _ h => h) t _ (hY 5),
    finds_kept k c 6 rfl (fun _ _ _ => rfl) (fun _ _ _ h => h) t _ (hY 6)⟩

theorem defs₀_row (t : Fin cfg0.N) :
    defs₀ (F := F) .tc cfg0.body (cfg0.bodyArgs t (cfg0.slots t)) = bodyAt0 t := by
  unfold defs₀; rw [Defs.onTc_tc]

theorem phi_castSucc (c : Dev nD) (t : Fin cfg0.N) : (rdat k c).Φ t.castSucc = held k c t.val := by dsimp only [rdat]; rfl

theorem phi_succ (c : Dev nD) (t : Fin cfg0.N) : (rdat k c).Φ t.succ = held k c (t.val + 1) := by dsimp only [rdat]; rfl

open Classical in
/-- A grid point keeps the relations. -/
theorem body_obligation (c : Dev nD) : (rdat k c).BodyObligation (defs₀ (F := F)) Variants.none () Set.univ := by
  intro t Y hY
  obtain ⟨⟨d0, h0⟩, ⟨d1, h1⟩, ⟨d2, h2⟩, ⟨d3, h3⟩, ⟨d4, h4⟩, ⟨d5, h5⟩, ⟨d6, h6⟩⟩ := finds_input k c t Y hY
  rw [bigSep_W0, bigSep_W0, defs₀_row, phi_castSucc, phi_succ, after_eq]
  unfold held
  iintro ⟨⟨⟨%s0, %s1, %s2, %hs, HS0, HS1, HS2⟩, Hg⟩, Ho, H0, H1, H2, H3, H4, H5, H6, H7, H8⟩
  iapply (MainBody.run c (grid0.coords t) _ _ _ _ _ _ _ _ _ _ _ _ _ _ _ _ _ _ _ _ _ _ _ _ (Y 0) (Y 1) (Y 2) (Y 3) (Y 4) (Y 5) (Y 6) (Y 7) (Y 8) s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  have hk := k.step c t d0 d1 d2 d3 d4 d5 d6 s0 s1 s2 hs
  rw [← h0, ← h1, ← h2, ← h3, ← h4, ← h5, ← h6] at hk
  iintro ⟨H0, H1, H2, H3, H4, H5, H6, H7, H8, HS0, HS1, HS2⟩
  isplitl [HS0 HS1 HS2 Hg]
  · isplitl [HS0 HS1 HS2]
    · iexists _, _, _
      isplitr; · ipureintro; exact hk.1
      isplitl [HS0]; · iexact HS0
      isplitl [HS1]; · iexact HS1
      iexact HS2
    iexact Hg
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  isplitl [H3]
  · iexists (Y 3); isplitr; · ipureintro; exact (rfl : Y 3 = Y 3)
    iexact H3
  isplitl [H4]
  · iexists (Y 4); isplitr; · ipureintro; exact (rfl : Y 4 = Y 4)
    iexact H4
  isplitl [H5]
  · iexists (Y 5); isplitr; · ipureintro; exact (rfl : Y 5 = Y 5)
    iexact H5
  isplitl [H6]
  · iexists (Y 6); isplitr; · ipureintro; exact (rfl : Y 6 = Y 6)
    iexact H6
  isplitl [H7]
  · iexists _; isplitr
    rotate_left
    · iexact H7
    ipureintro; exact hk.2.1
  iexists _; isplitr
  rotate_left
  · iexact H8
  ipureintro
  show t.val % 192 = 191 → k.stats c _
  intro ht
  rw [if_pos ((last_iff t).mpr ht)]
  exact hk.2.2 ht

theorem scratch_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; rfl

theorem hin (c : Dev nD) : Pipeline.ΦA spec0 c ⊢ (rdat k c).Φ 0 := by
  rw [show (rdat k c).Φ 0 = held k c 0 from rfl, scratch_eq]
  unfold held
  iintro ⟨⟨⟨%s0, HS0⟩, ⟨%s1, HS1⟩, ⟨%s2, HS2⟩⟩, Hg⟩
  isplitl [HS0 HS1 HS2]
  · iexists s0, s1, s2
    isplitr; · ipureintro; exact k.zero c s0 s1 s2
    isplitl [HS0]; · iexact HS0
    isplitl [HS1]; · iexact HS1
    iexact HS2
  iexact Hg

theorem hout (c : Dev nD) : (rdat k c).Φ (Fin.last cfg0.N) ⊢ Pipeline.ΦA spec0 c := by
  rw [show (rdat k c).Φ (Fin.last cfg0.N) = held k c (Fin.last cfg0.N).val from rfl, scratch_eq]
  unfold held
  iintro ⟨⟨%s0, %s1, %s2, -, HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The run of the main pass. -/
theorem run : θ_run defs (onTc (τ := τ) (main (F := F))) (s₀ m ρ)
    (fun r => RDat.FramePost cfg0 (rdat k) (V m) r ∧ r.2.sem = fun _ => 0) :=
  RDat.θ_run_frame_track (Q' := _) cfgs (0 : Fin 1) launch0 defs₀ Variants.none (rdat k) m ρ main
    (hbody := body_obligation k) (hshare := fun c => (rdat k c).share_full fun _ => rfl)
    (howed := fun _ _ => rfl) (V := V m) (hmain := hmain m Variants.none) (hA := A_eq k) (hin := hin k) (hout := hout k)

end Cert.MainRun

end
-- ==== Proof.MainFrame.lean ====
module

public import proofs.«01_k».proof.Proof.MainRun
public import proofs.«01_k».proof.Proof.Gen.Main.Frame
public import Idealize.ShloMosaic.Lib.Pointwise.Index

/-! # What the main pass leaves

The arguments, unchanged at any values; the two results, when the relations a grid point keeps pin them. -/

@[expose] public section

set_option maxRecDepth 16384

noncomputable section

namespace Cert.MainFrame

open Idealize.ShloMosaic Idealize.ShloMosaic.TcCoe Idealize.SL.Sem
open Idealize.ShloMosaic.Pipeline (RDat Dat)
open Cert.MainIdeal Cert.MainIdeal.Gen Cert.MainRun

variable {F : FTy → Type} [FloatOps F]

variable {m : (ℓ : Loc nD τ sig) → Buf (Elt F) ℓ} (ρ : Dev nD → PrngReg)

/-- The relations that say nothing. -/
def anything : Kept m where
  scratch _ _ _ _ _ := True
  keyBlock _ _ _ := True
  stats _ _ := True
  zero _ _ _ _ := trivial
  step _ _ _ _ _ _ _ _ _ _ _ _ _ := ⟨trivial, trivial, fun _ => trivial⟩

theorem args_of (k : Kept m) {r : PUnit × MemSt nD τ sig (Elt F)} (h : RDat.FramePost cfg0 (rdat k) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 0 rfl).trans ((A_eq k c 0).trans (V_main_arg3 m c))⟩

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of anything h.1 c, h.2⟩) (MainRun.run ρ anything)

/-- Where a block of the keys lies in the array. -/
theorem emb7 (t : Fin cfg0.N) (j : S64x128.Idx) (i : S64x24576.Idx) (h0 : (i 0).val = (j 0).val)
    (h1 : (i 1).val = t.val * 128 + (j 1).val) : ((cfg0.win 7).blk t).view.emb j = i := by
  have ht : t.val < 192 := Nat.lt_of_lt_of_eq t.isLt N_0
  have e1 : (grid0.coords t 0).val = t.val := MainBody.coord t
  funext a; apply Fin.ext
  match a with
  | ⟨0, _⟩ => show 0 * 64 + 1 * (j 0).val = (i 0).val; omega
  | ⟨1, _⟩ =>
    show cc0_transform_7 (grid0.coords t) 1 * 128 + 1 * (j 1).val = (i 1).val
    have e2 : cc0_transform_7 (grid0.coords t) 1 = (grid0.coords t 0).val := by
      show (BitVec.ofNat 32 (grid0.coords t 0).val).toNat = _
      rw [BitVec.toNat_ofNat, Nat.mod_eq_of_lt (by omega)]
    omega

theorem emb8 (t : Fin cfg0.N) (j : S64x8.Idx) : ((cfg0.win 8).blk t).view.emb j = j := by
  funext a; apply Fin.ext
  match a with
  | ⟨0, _⟩ => show 0 * 64 + 1 * (j 0).val = (j 0).val; omega
  | ⟨1, _⟩ => show 0 * 8 + 1 * (j 1).val = (j 1).val; omega

/-- The two results, when the relations pin them. -/
theorem results_of (k : Kept m) (keys : Dev nD → Vec F S64x24576 .f32) (stats : Dev nD → Vec F S64x8 .f32)
    (hk : ∀ c (t : Fin cfg0.N) X, k.keyBlock c t X → ∀ (j : S64x128.Idx) (i : S64x24576.Idx), (i 0).val = (j 0).val →
      (i 1).val = t.val * 128 + (j 1).val → X j = keys c i)
    (hs : ∀ c X, k.stats c X → X = stats c)
    {r : PUnit × MemSt nD τ sig (Elt F)} (h : RDat.FramePost cfg0 (rdat k) (V m) r) (c : Dev nD) :
    r.2.mem ((c.tc : Thread nD τ).loc main_v24_0) = keys c ∧ r.2.mem ((c.tc : Thread nD τ).loc main_v24_1) = stats c := by
  obtain ⟨after, hL, hA⟩ := RDat.FramePost.exists_exact h c
  have N192 : cfg0.N = 192 := N_0
  refine ⟨(hA 7).trans (Dat.arrAt_eq_of_cover (cfg := cfg0) _ 7 (keys c) (fun t ht => ?_) (fun i => ?_)),
    (hA 8).trans (Dat.arrAt_eq_of_cover (cfg := cfg0) ((rdat k c).withAfter after) 8 (stats c) (fun t ht => ?_) (fun i => ?_))⟩
  · obtain ⟨Y, -, hY⟩ := hL 7 t ht
    rw [after_eq] at hY
    funext j
    have hlt : t.val < 192 := N192 ▸ t.isLt
    have hj : (j 1).val < 128 := (j 1).isLt
    let i : S64x24576.Idx := ix2 (⟨(j 0).val, (j 0).isLt⟩ : Fin 64) (⟨t.val * 128 + (j 1).val, by omega⟩ : Fin 24576)
    show after 7 t j = keys c (((cfg0.win 7).blk t).view.emb j)
    rw [emb7 t j i rfl rfl]
    exact hk c t _ hY j i rfl rfl
  · have hi : (i 1).val < 24576 := (i 1).isLt
    let t : Fin cfg0.N := ⟨(i 1).val / 128, by omega⟩
    let j : S64x128.Idx := ix2 (⟨(i 0).val, (i 0).isLt⟩ : Fin 64) (⟨(i 1).val % 128, by omega⟩ : Fin 128)
    refine ⟨t, flush0_7 t, ?_⟩
    have e := ((cfg0.win 7).blk t).view.emb_mem_set j
    rwa [emb7 t j i rfl (show (i 1).val = (i 1).val / 128 * 128 + (i 1).val % 128 by omega)] at e
  · obtain ⟨Y, -, hY⟩ := hL 8 t ht
    rw [after_eq] at hY
    have hX := hs c _ (hY ((flush0_8 t).mp ht))
    funext j
    show after 8 t j = stats c (((cfg0.win 8).blk t).view.emb j)
    rw [emb8, hX]
  · refine ⟨⟨191, by omega⟩, (flush0_8 _).mpr rfl, ?_⟩
    have e := ((cfg0.win 8).blk (⟨191, by omega⟩ : Fin cfg0.N)).view.emb_mem_set i
    rwa [emb8] at e

/-- The same for the program at the printed numbers. -/
theorem frame_bits (m : (ℓ : Loc Cert.Main.nD Cert.Main.τ Cert.Main.sig) → Buf (Elt F) ℓ) (ρ : Dev Cert.Main.nD → PrngReg) :
    θ_run Cert.Main.defs (onTc (τ := Cert.Main.τ) (Cert.Main.main (F := F))) ⟨m, fun _ => 0, ρ⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3))
      ∧ r.2.sem = fun _ => 0) :=
by
  have h := frame (F := F) (m := m) ρ
  exact Eq.mpr (by sl_kernel_rfl) h

end Cert.MainFrame

end
-- ==== Proof.MainWords.lean ====
/-
  Words that count: quotients and remainders of small words, the place of an element within its group of twenty-one,
  and comparisons of small words.
-/
module

public import Idealize.ShloMosaic.Lib.WordArith
public import Idealize.ShloMosaic.Lib.WordCmp
public import Idealize.ShloMosaic.Lib.Affine
public import Idealize.ShloMosaic.PureOps

@[expose] public section

namespace Cert.MainWords

open Idealize.ShloMosaic

theorem divsi_small (u : ArithUnit) (n k : ℕ) (hn : n < 2 ^ 31) (hk : k < 2 ^ 31) (h0 : 0 < k) :
    IntOp.divsi u (BitVec.ofNat 32 n) (BitVec.ofNat 32 k) = BitVec.ofNat 32 (n / k) := by
  have en := WordArith.toInt_ofNat_small n hn
  have ek := WordArith.toInt_ofNat_small k hk
  have hq : n / k < 2 ^ 31 := lt_of_le_of_lt (Nat.div_le_self n k) hn
  unfold IntOp.divsi
  rw [if_neg]
  · apply BitVec.eq_of_toInt_eq
    rw [BitVec.toInt_sdiv, en, ek, WordArith.toInt_ofNat_small _ hq, ← Int.ofNat_tdiv]
    rw [Int.bmod_eq_of_le (by have := Int.natCast_nonneg (n / k); omega) (by have : ((n / k : ℕ) : ℤ) < 2 ^ 31 := by exact_mod_cast hq
                                                                             omega)]
  · rintro (h | ⟨-, h⟩)
    · have := congrArg BitVec.toInt h
      rw [ek] at this
      simp at this
      omega
    · have := congrArg BitVec.toInt h
      rw [ek] at this
      simp at this

theorem remsi_small (u : ArithUnit) (n k : ℕ) (hn : n < 2 ^ 31) (hk : k < 2 ^ 31) (h0 : 0 < k) :
    IntOp.remsi u (BitVec.ofNat 32 n) (BitVec.ofNat 32 k) = BitVec.ofNat 32 (n % k) := by
  have en := WordArith.toInt_ofNat_small n hn
  have ek := WordArith.toInt_ofNat_small k hk
  have hq : n % k < 2 ^ 31 := lt_of_le_of_lt (Nat.mod_le n k) hn
  unfold IntOp.remsi
  rw [if_neg]
  · apply BitVec.eq_of_toInt_eq
    rw [BitVec.toInt_srem, en, ek, WordArith.toInt_ofNat_small _ hq, ← Int.ofNat_tmod]
  · rintro (h | ⟨-, h⟩)
    · have := congrArg BitVec.toInt h
      rw [ek] at this
      simp at this
      omega
    · have := congrArg BitVec.toInt h
      rw [ek] at this
      simp at this

theorem eq_small (n k : ℕ) (hn : n < 2 ^ 31) (hk : k < 2 ^ 31) :
    IntOp.cmpi .eq (BitVec.ofNat 32 n) (BitVec.ofNat 32 k) = if n = k then 1#1 else 0#1 := by
  split
  · rename_i h; subst h; simp [IntOp.cmpi]
  · rename_i h
    have : BitVec.ofNat 32 n ≠ BitVec.ofNat 32 k := fun e => h (by
      have := congrArg BitVec.toInt e
      rw [WordArith.toInt_ofNat_small n hn, WordArith.toInt_ofNat_small k hk] at this
      exact_mod_cast this)
    show BitVec.ofBool (BitVec.ofNat 32 n == BitVec.ofNat 32 k) = 0#1
    rw [beq_eq_false_iff_ne.mpr this]
    rfl

/-- A block's element lies before the end of the array. -/
theorem before (n k l e : ℕ) (h : n * k + l < 2 ^ 31) (he : e < 2 ^ 31) :
    IntOp.cmpi .slt (IntOp.addi (IntOp.muli (BitVec.ofNat 32 n) (BitVec.ofNat 32 k)) (BitVec.ofNat 32 l)) (BitVec.ofNat 32 e) = 1#1
      ↔ n * k + l < e := by
  have e1 : IntOp.addi (IntOp.muli (BitVec.ofNat 32 n) (BitVec.ofNat 32 k)) (BitVec.ofNat 32 l) = BitVec.ofNat 32 (n * k + l) := by
    unfold IntOp.addi IntOp.muli
    rw [← BitVec.ofNat_mul, ← BitVec.ofNat_add]
  rw [e1, IntOp.cmpi_slt, WordArith.toInt_ofNat_small _ h, WordArith.toInt_ofNat_small _ he]
  exact Int.ofNat_lt

/-- The quotient by twenty-one is never lowered: the element's number is not negative. -/
theorem unlowered (l : ℕ) (h : l < 2 ^ 31) :
    IntOp.andi (IntOp.cmpi .ne (IntOp.subi ((IntOp.cmpi .sgt (BitVec.ofNat 32 l) 0#32).setWidth 32) ((IntOp.cmpi .slt (BitVec.ofNat 32 l) 0#32).setWidth 32)) 1#32)
      (IntOp.cmpi .ne (BitVec.ofNat 32 (l % 21)) 0#32) = 0#1 := by
  have e := WordArith.toInt_ofNat_small l h
  by_cases hl : l = 0
  · subst hl; decide
  · have h1 : IntOp.cmpi .sgt (BitVec.ofNat 32 l) 0#32 = 1#1 := by
      rw [IntOp.cmpi_sgt, e]; simp; omega
    have h2 : IntOp.cmpi .slt (BitVec.ofNat 32 l) 0#32 = 0#1 := by
      by_contra hne
      have : IntOp.cmpi .slt (BitVec.ofNat 32 l) 0#32 = 1#1 := by
        generalize IntOp.cmpi .slt (BitVec.ofNat 32 l) 0#32 = b at hne ⊢
        revert b; decide
      rw [IntOp.cmpi_slt, e] at this
      simp at this
      omega
    rw [h1, h2]
    generalize IntOp.cmpi .ne (BitVec.ofNat 32 (l % 21)) 0#32 = b
    revert b; decide

theorem group_word (l : ℕ) :
    IntOp.subi (BitVec.ofNat 32 l) (IntOp.muli (BitVec.ofNat 32 (l / 21)) 21#32) = BitVec.ofNat 32 (l % 21) := by
  unfold IntOp.subi IntOp.muli
  rw [← BitVec.ofNat_mul]
  have : l = l / 21 * 21 + l % 21 := by omega
  rw [sub_eq_iff_eq_add, ← BitVec.ofNat_add]
  exact congrArg _ (by omega)

end Cert.MainWords
-- ==== Proof.MainSeen.lean ====
/-
  What a grid point of the main pass sees of its arrays: the targets, the logits and the boxes of its anchors, and the
  three matrices that tie a group's elements to its anchor.
-/
module

public import proofs.«01_k».proof.Proof.MainRun
public import proofs.«01_k».proof.Proof.MainWords
public import Idealize.ShloMosaic.Lib.Pointwise.Index
public import Idealize.ShloMosaic.Lib.IdealHost
public import Idealize.ShloMosaic.PureOps.Ideal.Laws
public import Idealize.ShloMosaic.Lib.StableHlo.Run

@[expose] public section

set_option maxRecDepth 16384

noncomputable section

namespace Cert.MainSeen

open Idealize.ShloMosaic Idealize.ShloMosaic.TcCoe Idealize.ShloMosaic.StableHlo
open Cert.MainIdeal Cert.MainIdeal.Gen Cert.MainRun Cert.MainWords

variable (m : (ℓ : Loc nD τ sig) → Buf (Elt Ideal) ℓ) (c : Dev nD) (t : Fin cfg0.N)

theorem extent_of (ix k d j : ℕ) (hj : j < k) (h : ix * k + j < d) : j < (Pipeline.Clip.of ix k d).extent k := by
  unfold Pipeline.Clip.of
  split
  · exact hj
  · show j < d - ix * k
    omega

theorem step_word (t : Fin cfg0.N) : (BitVec.ofNat 32 (grid0.coords t 0).val).toNat = t.val := by
  have ht : t.val < 192 := Nat.lt_of_lt_of_eq t.isLt N_0
  rw [MainBody.coord, BitVec.toNat_ofNat, Nat.mod_eq_of_lt (by omega)]

theorem seen0 (d) (r : Fin 64) (l : Fin 128) (a : Fin 24564) (h : a.val = t.val * 128 + l.val) :
    seen m c 0 t d (ix2 r l) = m ((c.tc : Thread nD τ).loc main_arg3) (ix2 r a) := by
  have hm : (cfg0.win 0).moved (cfg0.grid.coords t) (ix2 r l) = true := by
    rw [Pipeline.Window.moved_iff]
    intro b
    match b with
    | ⟨0, _⟩ => exact extent_of 0 64 64 r.val r.isLt (by omega)
    | ⟨1, _⟩ =>
      refine extent_of (cc0_transform_0 (grid0.coords t) 1) 128 24564 l.val l.isLt ?_
      rw [show cc0_transform_0 (grid0.coords t) 1 = t.val from step_word t]
      omega
  unfold seen Pipeline.Window.fill
  rw [dif_pos hm]
  show V m c main_arg3 _ = _
  rw [V_main_arg3]
  refine congrArg (m ((c.tc : Thread nD τ).loc main_arg3)) (funext fun b => Fin.ext ?_)
  match b with
  | ⟨0, _⟩ => show 0 * 64 + 1 * r.val = r.val; omega
  | ⟨1, _⟩ =>
    show (BitVec.ofNat 32 (grid0.coords t 0).val).toNat * 128 + 1 * l.val = a.val
    rw [step_word]; omega

theorem V_logits : V m c main_v2 = shapeCast S64x515844 (m ((c.tc : Thread nD τ).loc main_arg2)) shapeCasts_S64x24564x21_S64x515844 := by
  show after hostOps0 (fun b => m (c, b)) (Proc.devRef .tc main_v2) = _
  after_results
  rfl

theorem V_left : V m c main_v0 = shapeCast S64x98256 (m ((c.tc : Thread nD τ).loc main_arg0)) shapeCasts_S64x24564x4_S64x98256 := by
  show after hostOps0 (fun b => m (c, b)) (Proc.devRef .tc main_v0) = _
  after_results
  rfl

theorem V_right : V m c main_v1 = shapeCast S64x98256 (m ((c.tc : Thread nD τ).loc main_arg1)) shapeCasts_S64x24564x4_S64x98256 := by
  show after hostOps0 (fun b => m (c, b)) (Proc.devRef .tc main_v1) = _
  after_results
  rfl

theorem tie_at (n k : ℕ) (a : ℕ) (hn : n < 2 ^ 31) (hk : k < 2 ^ 31) (h0 : 0 < k) (ha : a < 2 ^ 31) :
    FloatOps.uitofp (F := Ideal) .f32 (IntOp.cmpi .eq (IntOp.divsi .host (BitVec.ofNat 32 n) (BitVec.ofNat 32 k)) (BitVec.ofNat 32 a))
      = if n / k = a then (1 : EReal) else 0 := by
  rw [divsi_small .host n k hn hk h0, eq_small _ _ (lt_of_le_of_lt (Nat.div_le_self n k) hn) ha]
  split
  · show (((1#1 : BitVec 1).toNat : ℝ) : EReal) = 1
    simp
  · show (((0#1 : BitVec 1).toNat : ℝ) : EReal) = 0
    simp

theorem seen1 (d) (r : Fin 64) (l : Fin 2688) (a : Fin 24564) (k : Fin 21) (h : a.val * 21 + k.val = t.val * 2688 + l.val) :
    seen m c 1 t d (ix2 r l) = m ((c.tc : Thread nD τ).loc main_arg2) (ix3 r a k) := by
  have hm : (cfg0.win 1).moved (cfg0.grid.coords t) (ix2 r l) = true := by
    rw [Pipeline.Window.moved_iff]
    intro b
    match b with
    | ⟨0, _⟩ => exact extent_of 0 64 64 r.val r.isLt (by omega)
    | ⟨1, _⟩ =>
      refine extent_of (cc0_transform_1 (grid0.coords t) 1) 2688 515844 l.val l.isLt ?_
      rw [show cc0_transform_1 (grid0.coords t) 1 = t.val from step_word t]
      omega
  unfold seen Pipeline.Window.fill
  rw [dif_pos hm]
  show V m c main_v2 _ = _
  rw [V_logits]
  refine shapeCast_apply _ _ _ (ix3 r a k) ?_
  rw [Shape.rowMajor_val_three]
  refine Eq.trans ?_ (Shape.rowMajor_val_two _).symm
  show (r.val * 24564 + a.val) * 21 + k.val = (0 * 64 + 1 * r.val) * 515844 + ((BitVec.ofNat 32 (grid0.coords t 0).val).toNat * 2688 + 1 * l.val)
  rw [step_word]; omega

theorem seen2 (d) (r : Fin 64) (l : Fin 512) (a : Fin 24564) (k : Fin 4) (h : a.val * 4 + k.val = t.val * 512 + l.val) :
    seen m c 2 t d (ix2 r l) = m ((c.tc : Thread nD τ).loc main_arg0) (ix3 r a k) := by
  have hm : (cfg0.win 2).moved (cfg0.grid.coords t) (ix2 r l) = true := by
    rw [Pipeline.Window.moved_iff]
    intro b
    match b with
    | ⟨0, _⟩ => exact extent_of 0 64 64 r.val r.isLt (by omega)
    | ⟨1, _⟩ =>
      refine extent_of (cc0_transform_2 (grid0.coords t) 1) 512 98256 l.val l.isLt ?_
      rw [show cc0_transform_2 (grid0.coords t) 1 = t.val from step_word t]
      omega
  unfold seen Pipeline.Window.fill
  rw [dif_pos hm]
  show V m c main_v0 _ = _
  rw [V_left]
  refine shapeCast_apply _ _ _ (ix3 r a k) ?_
  rw [Shape.rowMajor_val_three]
  refine Eq.trans ?_ (Shape.rowMajor_val_two _).symm
  show (r.val * 24564 + a.val) * 4 + k.val = (0 * 64 + 1 * r.val) * 98256 + ((BitVec.ofNat 32 (grid0.coords t 0).val).toNat * 512 + 1 * l.val)
  rw [step_word]; omega

theorem seen3 (d) (r : Fin 64) (l : Fin 512) (a : Fin 24564) (k : Fin 4) (h : a.val * 4 + k.val = t.val * 512 + l.val) :
    seen m c 3 t d (ix2 r l) = m ((c.tc : Thread nD τ).loc main_arg1) (ix3 r a k) := by
  have hm : (cfg0.win 3).moved (cfg0.grid.coords t) (ix2 r l) = true := by
    rw [Pipeline.Window.moved_iff]
    intro b
    match b with
    | ⟨0, _⟩ => exact extent_of 0 64 64 r.val r.isLt (by omega)
    | ⟨1, _⟩ =>
      refine extent_of (cc0_transform_3 (grid0.coords t) 1) 512 98256 l.val l.isLt ?_
      rw [show cc0_transform_3 (grid0.coords t) 1 = t.val from step_word t]
      omega
  unfold seen Pipeline.Window.fill
  rw [dif_pos hm]
  show V m c main_v1 _ = _
  rw [V_right]
  refine shapeCast_apply _ _ _ (ix3 r a k) ?_
  rw [Shape.rowMajor_val_three]
  refine Eq.trans ?_ (Shape.rowMajor_val_two _).symm
  show (r.val * 24564 + a.val) * 4 + k.val = (0 * 64 + 1 * r.val) * 98256 + ((BitVec.ofNat 32 (grid0.coords t 0).val).toNat * 512 + 1 * l.val)
  rw [step_word]; omega

theorem V_seg (l : Fin 2688) (a : Fin 128) : (V m c main_v9 : FVec Ideal S2688x128 .bf16) (ix2 l a) = if l.val / 21 = a.val then (1 : EReal) else 0 := by
  have e : V m c main_v9 = truncf .bf16 (uitofp .f32 (cmpi .eq (Host.divsi (iotaInDim S2688x128 32 0) (broadcastInDim S2688x128 ![] bcast_S_S2688x128 (constantI S_ 32 21#32))) (iotaInDim S2688x128 32 1)) : FVec Ideal S2688x128 .f32) bitsLt_bf16_f32 := by
    show after hostOps0 (fun b => m (c, b)) (Proc.devRef .tc main_v9) = _
    after_results
  rw [e]
  exact tie_at l.val 21 a.val (by omega) (by omega) (by omega) (by omega)

theorem V_segt (a : Fin 128) (l : Fin 2688) : (V m c main_v16 : FVec Ideal S128x2688 .bf16) (ix2 a l) = if l.val / 21 = a.val then (1 : EReal) else 0 := by
  have e : V m c main_v16 = truncf .bf16 (uitofp .f32 (cmpi .eq (Host.divsi (iotaInDim S128x2688 32 1) (broadcastInDim S128x2688 ![] bcast_S_S128x2688 (constantI S_ 32 21#32))) (iotaInDim S128x2688 32 0)) : FVec Ideal S128x2688 .f32) bitsLt_bf16_f32 := by
    show after hostOps0 (fun b => m (c, b)) (Proc.devRef .tc main_v16) = _
    after_results
  rw [e]
  exact tie_at l.val 21 a.val (by omega) (by omega) (by omega) (by omega)

theorem V_seg4t (a : Fin 128) (l : Fin 512) : (V m c main_v23 : FVec Ideal S128x512 .bf16) (ix2 a l) = if l.val / 4 = a.val then (1 : EReal) else 0 := by
  have e : V m c main_v23 = truncf .bf16 (uitofp .f32 (cmpi .eq (Host.divsi (iotaInDim S128x512 32 1) (broadcastInDim S128x512 ![] bcast_S_S128x512 (constantI S_ 32 4#32))) (iotaInDim S128x512 32 0)) : FVec Ideal S128x512 .f32) bitsLt_bf16_f32 := by
    show after hostOps0 (fun b => m (c, b)) (Proc.devRef .tc main_v23) = _
    after_results
  rw [e]
  exact tie_at l.val 4 a.val (by omega) (by omega) (by omega) (by omega)

theorem seen4 (d) (i : Fin 2688) (j : Fin 128) : (seen m c 4 t d (ix2 i j) : EReal) = if i.val / 21 = j.val then (1 : EReal) else 0 := by
  unfold seen Pipeline.Window.fill
  have hm : (cfg0.win 4).moved (cfg0.grid.coords t) (ix2 i j) = true := by
    rw [Pipeline.Window.moved_iff]
    intro b
    match b with
    | ⟨0, _⟩ => exact i.isLt
    | ⟨1, _⟩ => exact j.isLt
  rw [dif_pos hm]
  refine Eq.trans ?_ (V_seg m c i j)
  show V m c main_v9 _ = _
  refine congrArg (V m c main_v9) (funext fun b => Fin.ext ?_)
  match b with
  | ⟨0, _⟩ => show 0 * 2688 + 1 * i.val = i.val; omega
  | ⟨1, _⟩ => show 0 * 128 + 1 * j.val = j.val; omega

theorem seen5 (d) (i : Fin 128) (j : Fin 2688) : (seen m c 5 t d (ix2 i j) : EReal) = if j.val / 21 = i.val then (1 : EReal) else 0 := by
  unfold seen Pipeline.Window.fill
  have hm : (cfg0.win 5).moved (cfg0.grid.coords t) (ix2 i j) = true := by
    rw [Pipeline.Window.moved_iff]
    intro b
    match b with
    | ⟨0, _⟩ => exact i.isLt
    | ⟨1, _⟩ => exact j.isLt
  rw [dif_pos hm]
  refine Eq.trans ?_ (V_segt m c i j)
  show V m c main_v16 _ = _
  refine congrArg (V m c main_v16) (funext fun b => Fin.ext ?_)
  match b with
  | ⟨0, _⟩ => show 0 * 128 + 1 * i.val = i.val; omega
  | ⟨1, _⟩ => show 0 * 2688 + 1 * j.val = j.val; omega

theorem seen6 (d) (i : Fin 128) (j : Fin 512) : (seen m c 6 t d (ix2 i j) : EReal) = if j.val / 4 = i.val then (1 : EReal) else 0 := by
  unfold seen Pipeline.Window.fill
  have hm : (cfg0.win 6).moved (cfg0.grid.coords t) (ix2 i j) = true := by
    rw [Pipeline.Window.moved_iff]
    intro b
    match b with
    | ⟨0, _⟩ => exact i.isLt
    | ⟨1, _⟩ => exact j.isLt
  rw [dif_pos hm]
  refine Eq.trans ?_ (V_seg4t m c i j)
  show V m c main_v23 _ = _
  refine congrArg (V m c main_v23) (funext fun b => Fin.ext ?_)
  match b with
  | ⟨0, _⟩ => show 0 * 128 + 1 * i.val = i.val; omega
  | ⟨1, _⟩ => show 0 * 512 + 1 * j.val = j.val; omega

end Cert.MainSeen

end
-- ==== Proof.MainSpec.lean ====
/-
  The quantities of the loss pass over the extended reals, anchor by anchor and row by row: the cross entropy, the
  smooth distance of the boxes, the sums over the positive anchors and the array of mining keys.
-/
module

public import Idealize.ShloMosaic.PureOps
public import Idealize.ShloMosaic.Lib.Pointwise.Index
public import Idealize.ShloMosaic.PureOps.Ideal.Laws

@[expose] public section

noncomputable section

namespace Cert.MainSpec

open Idealize.ShloMosaic

abbrev Boxes := FVec Ideal ⟨3, ![64, 24564, 4]⟩ .f32
abbrev Logits := FVec Ideal ⟨3, ![64, 24564, 21]⟩ .f32
abbrev Targets := IVec ⟨2, ![64, 24564]⟩ 32

def half : EReal := Ideal.ofBits .f32 0x3F000000#32
def one : EReal := Ideal.ofBits .f32 0x3F800000#32
def negOne : EReal := Ideal.ofBits .f32 0xBF800000#32

variable (p q : Boxes) (x : Logits) (t : Targets) (r : Fin 64)

/-- An anchor with an object in it. -/
def Positive (a : Fin 24564) : Prop := 0 < (t (ix2 r a)).toInt

/-- An anchor's class; a target past the last class reads as the last. -/
def label (a : Fin 24564) : Fin 21 := ⟨min (t (ix2 r a)).toInt.toNat 20, by omega⟩

/-- An anchor's cross entropy. -/
def loss (a : Fin 24564) : EReal :=
  Ideal.log (∑ c : Fin 21, Ideal.exp (x (ix3 r a c))) - x (ix3 r a (label t r a))

/-- The smooth distance of one coordinate. -/
def smooth (d : EReal) : EReal := if max d (-d) < one then half * d * d else max d (-d) - half

open Classical in
/-- The number of positive anchors. -/
def positives : EReal := ∑ a : Fin 24564, if Positive t r a then (1 : EReal) else 0

open Classical in
/-- The cross entropy of the positive anchors. -/
def positiveLoss : EReal := ∑ a : Fin 24564, if Positive t r a then loss x t r a else 0

open Classical in
/-- The distance of the positive anchors' boxes. -/
def boxLoss : EReal :=
  ∑ a : Fin 24564, ∑ k : Fin 4, if Positive t r a then smooth (p (ix3 r a k) - q (ix3 r a k)) else 0

open Classical in
/-- An anchor's mining key: its cross entropy, or minus one where it is positive or past the last anchor. -/
def keyAt (a : Fin 24576) : EReal :=
  if h : a.val < 24564 then (if Positive t r ⟨a.val, h⟩ then negOne else loss x t r ⟨a.val, h⟩) else negOne

/-- The row's three sums, then zeros. -/
def statAt (o : Fin 8) : EReal :=
  if o.val = 0 then positives t r else if o.val = 1 then positiveLoss x t r else if o.val = 2 then boxLoss p q t r else 0

/-- Every target names a class, and every logit is a real number. -/
structure Fine : Prop where
  target : ∀ r a, 0 ≤ (t (ix2 r a)).toInt ∧ (t (ix2 r a)).toInt < 21
  logit : ∀ r a c, x (ix3 r a c) ≠ ⊤ ∧ x (ix3 r a c) ≠ ⊥

/-- The two arrays. -/
def keys : FVec Ideal ⟨2, ![64, 24576]⟩ .f32 := fun j => keyAt x t (j 0) (j 1)
def stats : FVec Ideal ⟨2, ![64, 8]⟩ .f32 := fun j => statAt p q x t (j 0) (j 1)

end Cert.MainSpec

end
-- ==== Proof.MainKernel.lean ====
/-
  What one grid point of the main pass computes, element by element: the masks, the cross entropy of an anchor from the
  elements of its group, its mining key, and what it adds to the three running sums.
-/
module

public import proofs.«01_k».proof.Proof.MainBody
public import proofs.«01_k».proof.Proof.MainSpec
public import proofs.«01_k».proof.Proof.MainWords
public import Idealize.ShloMosaic.Lib.MatmulPlain
public import Idealize.ShloMosaic.Lib.IdealHost
public import Mathlib.Analysis.SpecialFunctions.Log.Basic

@[expose] public section

set_option maxRecDepth 16384

noncomputable section

namespace Cert.MainKernel

open Idealize.ShloMosaic
open Cert.MainIdeal Cert.MainIdeal.Gen Cert.MainWords

/-- A sum over consecutive groups. -/
theorem split_sum (m n N : ℕ) (h : m * n = N) (f : Fin N → EReal) :
    ∑ l, f l = ∑ a : Fin m, ∑ k : Fin n, f ⟨a.val * n + k.val, by
      have := a.isLt; have := k.isLt
      calc a.val * n + k.val < a.val * n + n := by omega
        _ = (a.val + 1) * n := by ring
        _ ≤ m * n := Nat.mul_le_mul_right n (by omega)
        _ = N := h⟩ := by
  subst h
  rw [← Fintype.sum_prod_type' (f := fun a k => f _), ← finProdFinEquiv.sum_comp]
  refine Finset.sum_congr rfl fun j _ => congrArg f (Fin.ext ?_)
  show j.2.val + n * j.1.val = j.1.val * n + j.2.val
  rw [mul_comm]; omega

/-- A sum against a group's marks is the sum over the group. -/
theorem group_sum (m n N : ℕ) (h : m * n = N) (f : Fin N → EReal) (a : Fin m) :
    ∑ l, f l * (if l.val / n = a.val then (1 : EReal) else 0) = ∑ k : Fin n, f ⟨a.val * n + k.val, by
      have := a.isLt; have := k.isLt
      calc a.val * n + k.val < a.val * n + n := by omega
        _ = (a.val + 1) * n := by ring
        _ ≤ m * n := Nat.mul_le_mul_right n (by omega)
        _ = N := h⟩ := by
  rw [split_sum m n N h, Finset.sum_eq_single a]
  · refine Finset.sum_congr rfl fun k _ => ?_
    have : (a.val * n + k.val) / n = a.val := by
      rw [mul_comm, Nat.mul_add_div (by have := k.isLt; omega), Nat.div_eq_of_lt k.isLt, add_zero]
    rw [if_pos this, mul_one]
  · intro b _ hb
    refine Finset.sum_eq_zero fun k _ => ?_
    have : (b.val * n + k.val) / n = b.val := by
      rw [mul_comm, Nat.mul_add_div (by have := k.isLt; omega), Nat.div_eq_of_lt k.isLt, add_zero]
    rw [if_neg (by rw [this]; exact fun e => hb (Fin.ext e)), mul_zero]
  · intro h; exact absurd (Finset.mem_univ a) h

/-- A sum against an element's own mark is one term. -/
theorem pick_sum {m : ℕ} (f : Fin m → EReal) (n : ℕ) (h : n < m) :
    ∑ a : Fin m, f a * (if n = a.val then (1 : EReal) else 0) = f ⟨n, h⟩ := by
  rw [Finset.sum_eq_single ⟨n, h⟩]
  · rw [if_pos rfl, mul_one]
  · intro b _ hb
    rw [if_neg (fun e => hb (Fin.ext e.symm)), mul_zero]
  · intro h; exact absurd (Finset.mem_univ _) h

theorem spread (lhs : FVec Ideal S64x128 .bf16) (rhs : FVec Ideal S128x2688 .bf16) (r : Fin 64) (l : Fin 2688) :
    matmul dot_S64x128_S128x2688_S64x2688_1_0_0_1_n_n none lhs rhs (constant S64x2688 .f32 0x00000000#32) (ix2 r l)
      = ∑ k : Fin 128, (lhs (ix2 r k) : EReal) * rhs (ix2 k l) := by
  refine (Ideal.matmul_plain_apply none lhs rhs _ r l).trans ?_
  exact (congrArg (fun z : EReal => z + _) Ideal.ofBits_zero_f32).trans (zero_add _)

theorem spread4 (lhs : FVec Ideal S64x128 .bf16) (rhs : FVec Ideal S128x512 .bf16) (r : Fin 64) (l : Fin 512) :
    matmul dot_S64x128_S128x512_S64x512_1_0_0_1_n_n none lhs rhs (constant S64x512 .f32 0x00000000#32) (ix2 r l)
      = ∑ k : Fin 128, (lhs (ix2 r k) : EReal) * rhs (ix2 k l) := by
  refine (Ideal.matmul_plain_apply none lhs rhs _ r l).trans ?_
  exact (congrArg (fun z : EReal => z + _) Ideal.ofBits_zero_f32).trans (zero_add _)

theorem gather (lhs : FVec Ideal S64x2688 .bf16) (rhs : FVec Ideal S2688x128 .bf16) (r : Fin 64) (l : Fin 128) :
    matmul dot_S64x2688_S2688x128_S64x128_1_0_0_1_n_n none lhs rhs (constant S64x128 .f32 0x00000000#32) (ix2 r l)
      = ∑ k : Fin 2688, (lhs (ix2 r k) : EReal) * rhs (ix2 k l) := by
  refine (Ideal.matmul_plain_apply none lhs rhs _ r l).trans ?_
  exact (congrArg (fun z : EReal => z + _) Ideal.ofBits_zero_f32).trans (zero_add _)

/-! ## The masks -/

variable (i : grid0.Coords) (x0 : Vec Ideal S64x128 .i32) (r : Fin 64)

theorem step_lt : (i 0).val < 192 := (i 0).isLt

theorem in_array (l : Fin 128) : k0_pay5 i (ix2 r l) = 1#1 ↔ (i 0).val * 128 + l.val < 24564 := by
  unfold k0_pay5
  dsimp only
  refine Eq.to_iff (congrArg (fun w => IntOp.cmpi .slt (IntOp.addi (IntOp.muli (BitVec.ofNat 32 (i 0).val) 128#32) w) 24564#32 = 1#1)
    (iota_single_apply .tc S64x128 32 1 iota_S64x128_d1_w32 (ix2 r l))) |>.trans ?_
  exact before (i 0).val 128 l.val 24564 (by have := step_lt i; omega) (by omega)

theorem place (l : Fin 2688) : iota .tc S64x2688 32 [1] iota_S64x2688_d1_w32 (ix2 r l) = BitVec.ofNat 32 l.val :=
  iota_single_apply .tc S64x2688 32 1 iota_S64x2688_d1_w32 (ix2 r l)

theorem in_logits (l : Fin 2688) : k0_pay9 i (ix2 r l) = 1#1 ↔ (i 0).val * 2688 + l.val < 515844 := by
  unfold k0_pay9
  dsimp only
  refine Eq.to_iff (congrArg (fun w => IntOp.cmpi .slt (IntOp.addi (IntOp.muli (BitVec.ofNat 32 (i 0).val) 2688#32) w) 515844#32 = 1#1)
    (place r l)) |>.trans ?_
  exact before (i 0).val 2688 l.val 515844 (by have := step_lt i; omega) (by omega)

theorem and_iff (a b : BitVec 1) : IntOp.andi a b = 1#1 ↔ a = 1#1 ∧ b = 1#1 := by
  revert a b; decide

theorem marked (l : Fin 128) : k0_pay6 i x0 (ix2 r l) = 1#1 ↔ 0 < (x0 (ix2 r l)).toInt ∧ (i 0).val * 128 + l.val < 24564 := by
  refine (and_iff _ _).trans (and_congr ?_ (in_array i r l))
  exact IntOp.cmpi_sgt

theorem mask_value (l : Fin 128) : (k0_pay7 (F := Ideal) i x0 (ix2 r l) : EReal) = if k0_pay6 i x0 (ix2 r l) = 1#1 then 1 else 0 := by
  show (((((k0_pay6 i x0 (ix2 r l)).setWidth 32).toInt : ℤ) : ℝ) : EReal) = _
  generalize k0_pay6 i x0 (ix2 r l) = b
  rcases (by revert b; decide : b = 0#1 ∨ b = 1#1) with rfl | rfl <;> simp

/-! ## The cross entropy -/

theorem coe_sum (s : Finset (Fin 21)) (f : Fin 21 → ℝ) : ((∑ c ∈ s, f c : ℝ) : EReal) = ∑ c ∈ s, (f c : EReal) := by
  induction s using Finset.induction_on with
  | empty => simp
  | insert a s ha ih => rw [Finset.sum_insert ha, Finset.sum_insert ha, EReal.coe_add, ih]

/-- The exponentials add to a real number, and its logarithm passes each exponent. -/
theorem log_sum (e : Fin 21 → EReal) (he : ∀ k, e k ≠ ⊤ ∧ e k ≠ ⊥) (k : Fin 21) :
    max (Ideal.log (∑ c, Ideal.exp (e c)) - e k) 0 = Ideal.log (∑ c, Ideal.exp (e c)) - e k := by
  lift e to Fin 21 → ℝ using he
  have h1 : ∑ c, Ideal.exp ((e c : ℝ) : EReal) = ((∑ c, Real.exp (e c) : ℝ) : EReal) :=
    (coe_sum _ _).symm
  have hle : Real.exp (e k) ≤ ∑ c, Real.exp (e c) :=
    Finset.single_le_sum (f := fun c => Real.exp (e c)) (fun c _ => (Real.exp_pos _).le) (Finset.mem_univ k)
  have hpos : 0 < ∑ c, Real.exp (e c) := lt_of_lt_of_le (Real.exp_pos _) hle
  rw [h1]
  have h2 : Ideal.log ((∑ c, Real.exp (e c) : ℝ) : EReal) = ((Real.log (∑ c, Real.exp (e c)) : ℝ) : EReal) := by
    show (if _ then _ else _) = _
    rw [if_neg (not_le.2 hpos)]
  rw [h2]
  refine max_eq_left ?_
  have : e k ≤ Real.log (∑ c, Real.exp (e c)) := by
    rw [Real.le_log_iff_exp_le hpos]; exact hle
  rw [← EReal.coe_sub]
  exact EReal.coe_nonneg.2 (sub_nonneg.2 this)

/-- A logit's class: its place within its group. -/
def classes : IVec S64x2688 32 :=
  subi (iota .tc S64x2688 32 [1] iota_S64x2688_d1_w32)
    (muli (select (andi k0_pay11 (cmpi .ne k0_pay12 (broadcast S64x2688 0#32))) (subi k0_pay10 (broadcast S64x2688 1#32)) k0_pay10)
      (broadcast S64x2688 21#32))

theorem quotient_at (l : Fin 2688) : k0_pay10 (ix2 r l) = BitVec.ofNat 32 (l.val / 21) := by
  unfold k0_pay10
  dsimp only
  refine (congrArg (fun w => IntOp.divsi .vector w 21#32) (place r l)).trans ?_
  exact divsi_small .vector l.val 21 (by omega) (by omega) (by omega)

theorem remainder_at (l : Fin 2688) : k0_pay12 (ix2 r l) = BitVec.ofNat 32 (l.val % 21) := by
  unfold k0_pay12
  dsimp only
  refine (congrArg (fun w => IntOp.remsi .vector w 21#32) (place r l)).trans ?_
  exact remsi_small .vector l.val 21 (by omega) (by omega) (by omega)

theorem signs_at (l : Fin 2688) : k0_pay11 (ix2 r l)
    = IntOp.cmpi .ne (IntOp.subi ((IntOp.cmpi .sgt (BitVec.ofNat 32 l.val) 0#32).setWidth 32) ((IntOp.cmpi .slt (BitVec.ofNat 32 l.val) 0#32).setWidth 32)) 1#32 := by
  unfold k0_pay11
  dsimp only
  exact congrArg (fun w => IntOp.cmpi .ne (IntOp.subi ((IntOp.cmpi .sgt w 0#32).setWidth 32) ((IntOp.cmpi .slt w 0#32).setWidth 32)) 1#32) (place r l)

theorem class_at (l : Fin 2688) : classes (ix2 r l) = BitVec.ofNat 32 (l.val % 21) := by
  have hm : IntOp.andi (k0_pay11 (ix2 r l)) (IntOp.cmpi .ne (k0_pay12 (ix2 r l)) 0#32) = 0#1 := by
    rw [signs_at, remainder_at]
    exact unlowered l.val (by omega)
  show IntOp.subi (iota .tc S64x2688 32 [1] iota_S64x2688_d1_w32 (ix2 r l))
    (IntOp.muli (if IntOp.andi (k0_pay11 (ix2 r l)) (IntOp.cmpi .ne (k0_pay12 (ix2 r l)) 0#32) = 1#1 then IntOp.subi (k0_pay10 (ix2 r l)) 1#32 else k0_pay10 (ix2 r l)) 21#32) = _
  rw [hm, if_neg (by decide), quotient_at, place]
  exact group_word l.val

/-- The target of a logit's anchor. -/
def spreadTargets (x0 : Vec Ideal S64x128 .i32) (x5 : Vec Ideal S128x2688 .bf16) : FVec Ideal S64x2688 .f32 :=
  matmul dot_S64x128_S128x2688_S64x2688_1_0_0_1_n_n none (truncf .bf16 (sitofp .f32 x0 : FVec Ideal S64x128 .f32) bitsLt_bf16_f32)
    (shapeCast S128x2688 x5 shapeCasts_S128x2688_S128x2688 : FVec Ideal S128x2688 .bf16) (constant S64x2688 .f32 0x00000000#32)

/-- The exponentials of the logits, zero past the end of the array. -/
def exps (x1 : Vec Ideal S64x2688 .f32) : FVec Ideal S64x2688 .f32 :=
  select (k0_pay9 i) (exp (k0_pay8 x1)) (broadcast S64x2688 (Scalar.ofBits .f32 0x00000000#32))

/-- The logits of the anchors' own classes, zero elsewhere. -/
def chosen (x1 : Vec Ideal S64x2688 .f32) (x5 : Vec Ideal S128x2688 .bf16) : FVec Ideal S64x2688 .f32 :=
  select (andi (k0_pay9 i) (cmpf .oeq (sitofp .f32 classes : FVec Ideal S64x2688 .f32) (spreadTargets x0 x5))) (k0_pay8 x1)
    (broadcast S64x2688 (Scalar.ofBits .f32 0x00000000#32))

/-- A group's sum of a block's elements. -/
def groups (v : FVec Ideal S64x2688 .f32) (x4 : Vec Ideal S2688x128 .bf16) : FVec Ideal S64x128 .f32 :=
  matmul dot_S64x2688_S2688x128_S64x128_1_0_0_1_n_n none (truncf .bf16 v bitsLt_bf16_f32)
    (shapeCast S2688x128 x4 shapeCasts_S2688x128_S2688x128 : FVec Ideal S2688x128 .bf16) (constant S64x128 .f32 0x00000000#32)

theorem loss_eq (x1 : Vec Ideal S64x2688 .f32) (x4 : Vec Ideal S2688x128 .bf16) (x5 : Vec Ideal S128x2688 .bf16) :
    MainBody.loss i x0 x1 x4 x5 = maximumf (subf (log (groups (exps i x1) x4)) (groups (chosen i x0 x1 x5) x4))
      (broadcast S64x128 (Scalar.ofBits .f32 0x00000000#32)) := rfl

variable (x1 : Vec Ideal S64x2688 .f32) (x4 : Vec Ideal S2688x128 .bf16) (x5 : Vec Ideal S128x2688 .bf16)

theorem same_at {α : Type} {s : Shape} (v : s.Idx → α) (h : s.ShapeCasts s) (j : s.Idx) : shapeCast s v h j = v j :=
  shapeCast_apply v h j j rfl

theorem groups_at (v : FVec Ideal S64x2688 .f32) (h4 : ∀ l a, (x4 (ix2 l a) : EReal) = if l.val / 21 = a.val then 1 else 0) (a : Fin 128) :
    groups v x4 (ix2 r a) = ∑ k : Fin 21, v (ix2 r ⟨a.val * 21 + k.val, by omega⟩) := by
  refine (gather _ _ r a).trans ?_
  refine Eq.trans ?_ (group_sum 128 21 2688 rfl (fun l => v (ix2 r l)) a)
  refine Finset.sum_congr rfl fun l _ => ?_
  rw [same_at, h4]
  rfl

theorem targets_at (h5 : ∀ a l, (x5 (ix2 a l) : EReal) = if l.val / 21 = a.val then 1 else 0) (l : Fin 2688) :
    spreadTargets x0 x5 (ix2 r l) = (((x0 (ix2 r ⟨l.val / 21, by omega⟩)).toInt : ℝ) : EReal) := by
  refine (spread _ _ r l).trans ?_
  refine Eq.trans ?_ (pick_sum (fun a : Fin 128 => (((x0 (ix2 r a)).toInt : ℝ) : EReal)) (l.val / 21) (by omega))
  refine Finset.sum_congr rfl fun a _ => ?_
  rw [same_at, h5]
  rfl

theorem exps_at (l : Fin 2688) (h : (i 0).val * 2688 + l.val < 515844) : exps i x1 (ix2 r l) = Ideal.exp (x1 (ix2 r l)) := by
  show (if k0_pay9 i (ix2 r l) = 1#1 then Ideal.exp (k0_pay8 x1 (ix2 r l)) else _) = _
  rw [if_pos ((in_logits i r l).2 h)]
  exact congrArg Ideal.exp (same_at x1 _ _)

theorem chosen_at (h5 : ∀ a l, (x5 (ix2 a l) : EReal) = if l.val / 21 = a.val then 1 else 0) (l : Fin 2688)
    (h : (i 0).val * 2688 + l.val < 515844) :
    chosen i x0 x1 x5 (ix2 r l) = if (x0 (ix2 r ⟨l.val / 21, by omega⟩)).toInt = ((l.val % 21 : ℕ) : ℤ) then x1 (ix2 r l) else 0 := by
  show (if IntOp.andi (k0_pay9 i (ix2 r l)) (Ideal.cmp .oeq ((((classes (ix2 r l)).toInt : ℝ)) : EReal) (spreadTargets x0 x5 (ix2 r l))) = 1#1
    then (k0_pay8 x1 (ix2 r l) : EReal) else Ideal.ofBits .f32 0x00000000#32) = _
  rw [Ideal.ofBits_zero_f32, targets_at x0 r x5 h5, class_at, WordArith.toInt_ofNat_small _ (by omega)]
  refine if_congr ?_ (same_at x1 _ _) rfl
  rw [and_iff, in_logits]
  show _ ∧ BitVec.ofBool (decide (_ = _)) = 1#1 ↔ _
  rw [WordArith.ofBool_eq_one_iff, decide_eq_true_iff, EReal.coe_eq_coe_iff]
  constructor
  · rintro ⟨-, e⟩; exact_mod_cast e.symm
  · intro e; exact ⟨h, by exact_mod_cast e.symm⟩

/-- The cross entropy of an anchor of the array, from its logits and its class. -/
theorem loss_at (h4 : ∀ l a, (x4 (ix2 l a) : EReal) = if l.val / 21 = a.val then 1 else 0)
    (h5 : ∀ a l, (x5 (ix2 a l) : EReal) = if l.val / 21 = a.val then 1 else 0) (a : Fin 128)
    (h : (i 0).val * 128 + a.val < 24564) (e : Fin 21 → EReal) (he : ∀ k, e k ≠ ⊤ ∧ e k ≠ ⊥)
    (hx : ∀ k : Fin 21, (x1 (ix2 r ⟨a.val * 21 + k.val, by omega⟩) : EReal) = e k) (k : Fin 21) (hk : (x0 (ix2 r a)).toInt = (k.val : ℤ)) :
    MainBody.loss i x0 x1 x4 x5 (ix2 r a) = Ideal.log (∑ c, Ideal.exp (e c)) - e k := by
  rw [loss_eq]
  show max (Ideal.log (groups (exps i x1) x4 (ix2 r a)) - groups (chosen i x0 x1 x5) x4 (ix2 r a)) (Ideal.ofBits .f32 0x00000000#32) = _
  rw [Ideal.ofBits_zero_f32, groups_at r x4 _ h4, groups_at r x4 _ h4]
  have e1 : ∑ c : Fin 21, exps i x1 (ix2 r ⟨a.val * 21 + c.val, by omega⟩) = ∑ c, Ideal.exp (e c) :=
    Finset.sum_congr rfl fun c _ => (exps_at i r x1 _ (by show _ + (a.val * 21 + c.val) < _; omega)).trans (congrArg Ideal.exp (hx c))
  have e2 : ∑ c : Fin 21, chosen i x0 x1 x5 (ix2 r ⟨a.val * 21 + c.val, by omega⟩) = e k := by
    rw [Finset.sum_eq_single k]
    · rw [chosen_at i x0 r x1 x5 h5 _ (by show _ + (a.val * 21 + k.val) < _; omega)]
      have q : (a.val * 21 + k.val) / 21 = a.val := by omega
      have m : (a.val * 21 + k.val) % 21 = k.val := by omega
      rw [if_pos]
      · exact hx k
      · simp only [q, m]; exact hk
    · intro b _ hb
      rw [chosen_at i x0 r x1 x5 h5 _ (by show _ + (a.val * 21 + b.val) < _; omega)]
      have q : (a.val * 21 + b.val) / 21 = a.val := by omega
      have m : (a.val * 21 + b.val) % 21 = b.val := by omega
      rw [if_neg]
      simp only [q, m]
      intro e
      exact hb (Fin.ext (by have := hk.symm.trans e; omega))
    · intro h; exact absurd (Finset.mem_univ _) h
  rw [e1, e2]
  exact log_sum e he k

/-! ## The key and the running sums -/

theorem or_iff (a b : BitVec 1) : IntOp.ori a (IntOp.xori b 1#1) = 1#1 ↔ a = 1#1 ∨ ¬b = 1#1 := by
  revert a b; decide

theorem keys_eq : MainBody.keys i x0 x1 x4 x5 = select (ori (k0_pay6 i x0) (xori (k0_pay5 i) (constantI S64x128 1 1#1)))
    (broadcast S64x128 (Scalar.ofBits .f32 0xBF800000#32 : Ideal .f32)) (MainBody.loss i x0 x1 x4 x5) := rfl

open Classical in
theorem keys_at (a : Fin 128) : (MainBody.keys i x0 x1 x4 x5 (ix2 r a) : EReal)
    = if (i 0).val * 128 + a.val < 24564 then (if 0 < (x0 (ix2 r a)).toInt then MainSpec.negOne else MainBody.loss i x0 x1 x4 x5 (ix2 r a))
      else MainSpec.negOne := by
  rw [keys_eq]
  show (if IntOp.ori (k0_pay6 i x0 (ix2 r a)) (IntOp.xori (k0_pay5 i (ix2 r a)) 1#1) = 1#1 then MainSpec.negOne
    else MainBody.loss i x0 x1 x4 x5 (ix2 r a)) = _
  by_cases h : (i 0).val * 128 + a.val < 24564
  · rw [if_pos h]
    refine if_congr ?_ rfl rfl
    rw [or_iff, marked, in_array]
    tauto
  · rw [if_neg h, if_pos ((or_iff _ _).2 (.inr fun e => h ((in_array i r a).1 e)))]

open Classical in
theorem next0_at (s : Vec Ideal S64x128 .f32) (a : Fin 128) : (MainBody.next0 i x0 s (ix2 r a) : EReal)
    = (if MainBody.First i then 0 else s (ix2 r a)) + if k0_pay6 i x0 (ix2 r a) = 1#1 then 1 else 0 := by
  unfold MainBody.next0 k0_pay17
  rw [same_at]
  refine congrArg₂ (fun a b : EReal => a + b) ?_ (mask_value i x0 r a)
  split
  · unfold k0_pay2
    rw [same_at]
    exact Ideal.ofBits_zero_f32
  · rfl

open Classical in
theorem next1_at (s : Vec Ideal S64x128 .f32) (a : Fin 128) : (MainBody.next1 i x0 x1 x4 x5 s (ix2 r a) : EReal)
    = (if MainBody.First i then 0 else s (ix2 r a)) + if k0_pay6 i x0 (ix2 r a) = 1#1 then MainBody.loss i x0 x1 x4 x5 (ix2 r a) else 0 := by
  unfold MainBody.next1 k0_pay18
  rw [same_at]
  refine congrArg₂ (fun a b : EReal => a + b) ?_ (if_congr Iff.rfl rfl Ideal.ofBits_zero_f32)
  split
  · unfold k0_pay3
    rw [same_at]
    exact Ideal.ofBits_zero_f32
  · rfl

/-- The mark of a box coordinate's anchor. -/
theorem mask4_at (x6 : Vec Ideal S128x512 .bf16) (h6 : ∀ a l, (x6 (ix2 a l) : EReal) = if l.val / 4 = a.val then 1 else 0) (l : Fin 512) :
    matmul dot_S64x128_S128x512_S64x512_1_0_0_1_n_n none (truncf .bf16 (k0_pay7 i x0 : FVec Ideal S64x128 .f32) bitsLt_bf16_f32)
      (shapeCast S128x512 x6 shapeCasts_S128x512_S128x512 : FVec Ideal S128x512 .bf16) (constant S64x512 .f32 0x00000000#32) (ix2 r l)
      = if k0_pay6 i x0 (ix2 r ⟨l.val / 4, by omega⟩) = 1#1 then (1 : EReal) else 0 := by
  refine (spread4 _ _ r l).trans ?_
  refine Eq.trans ?_ (pick_sum (fun a : Fin 128 => if k0_pay6 i x0 (ix2 r a) = 1#1 then (1 : EReal) else 0) (l.val / 4) (by omega))
  refine Finset.sum_congr rfl fun a _ => ?_
  rw [same_at, h6]
  exact congrArg (fun z : EReal => z * _) (mask_value i x0 r a)

/-- The smooth distance of a block of box coordinates. -/
def distances (u v : FVec Ideal S64x512 .f32) : FVec Ideal S64x512 .f32 :=
  select (cmpf .olt (absf (subf u v)) (broadcast S64x512 (Scalar.ofBits .f32 0x3F800000#32)))
    (mulf (mulf (broadcast S64x512 (Scalar.ofBits .f32 0x3F000000#32)) (subf u v)) (subf u v))
    (subf (absf (subf u v)) (broadcast S64x512 (Scalar.ofBits .f32 0x3F000000#32)))

theorem distances_at (u v : FVec Ideal S64x512 .f32) (j : S64x512.Idx) : distances u v j = MainSpec.smooth ((u j : EReal) - v j) := by
  show (if BitVec.ofBool (decide (max ((u j : EReal) - v j) (-((u j : EReal) - v j)) < MainSpec.one)) = 1#1
    then MainSpec.half * ((u j : EReal) - v j) * ((u j : EReal) - v j) else max ((u j : EReal) - v j) (-((u j : EReal) - v j)) - MainSpec.half) = _
  refine if_congr ?_ rfl rfl
  rw [WordArith.ofBool_eq_one_iff, decide_eq_true_iff]

theorem next2_eq (f : FVec Ideal S64x128 .f32) (u : FVec Ideal S64x512 .f32) (v : Vec Ideal S64x512 .f32) (x6 : Vec Ideal S128x512 .bf16)
    (s : Vec Ideal S64x512 .f32) :
    k0_pay16 f u v x6 s = shapeCast S64x512 (addf s (select (cmpf .ogt
      (matmul dot_S64x128_S128x512_S64x512_1_0_0_1_n_n none (truncf .bf16 f bitsLt_bf16_f32)
        (shapeCast S128x512 x6 shapeCasts_S128x512_S128x512 : FVec Ideal S128x512 .bf16) (constant S64x512 .f32 0x00000000#32))
      (broadcast S64x512 (Scalar.ofBits .f32 0x00000000#32))) (distances u (shapeCast S64x512 v shapeCasts_S64x512_S64x512))
      (broadcast S64x512 (Scalar.ofBits .f32 0x00000000#32)))) shapeCasts_S64x512_S64x512 := rfl

open Classical in
theorem next2_at (x2 x3 : Vec Ideal S64x512 .f32) (x6 : Vec Ideal S128x512 .bf16)
    (h6 : ∀ a l, (x6 (ix2 a l) : EReal) = if l.val / 4 = a.val then 1 else 0) (s : Vec Ideal S64x512 .f32) (l : Fin 512) :
    (MainBody.next2 i x0 x2 x3 x6 s (ix2 r l) : EReal)
    = (if MainBody.First i then 0 else s (ix2 r l))
      + if k0_pay6 i x0 (ix2 r ⟨l.val / 4, by omega⟩) = 1#1 then MainSpec.smooth ((x2 (ix2 r l) : EReal) - x3 (ix2 r l)) else 0 := by
  unfold MainBody.next2
  rw [next2_eq, same_at]
  refine congrArg₂ (fun a b : EReal => a + b) ?_ ?_
  · split
    · unfold k0_pay4
      rw [same_at]
      exact Ideal.ofBits_zero_f32
    · rfl
  · refine (if_congr (P := BitVec.ofBool (decide ((Ideal.ofBits .f32 0x00000000#32 : EReal) < matmul dot_S64x128_S128x512_S64x512_1_0_0_1_n_n none (truncf .bf16 (k0_pay7 i x0 : FVec Ideal S64x128 .f32) bitsLt_bf16_f32)
      (shapeCast S128x512 x6 shapeCasts_S128x512_S128x512 : FVec Ideal S128x512 .bf16) (constant S64x512 .f32 0x00000000#32) (ix2 r l))) = 1#1) Iff.rfl rfl rfl).trans (if_congr ?_ ?_ Ideal.ofBits_zero_f32)
    · rw [Ideal.ofBits_zero_f32, mask4_at i x0 r x6 h6, WordArith.ofBool_eq_one_iff, decide_eq_true_iff]
      split
      · rename_i h; exact ⟨fun _ => h, fun _ => zero_lt_one⟩
      · rename_i h; exact ⟨fun e => absurd e (lt_irrefl _), fun e => absurd e h⟩
    · rw [distances_at]
      exact congrArg₂ (fun a b : EReal => MainSpec.smooth (a - b)) (same_at x2 _ _) (same_at x3 _ _)

end Cert.MainKernel

end
-- ==== Proof.RowSum.lean ====
/-
  Sums along the rows of a two-axis array: a float sum is the sum of the row's elements, and a word sum of a mask is
  the number of the row's marked positions.
-/
module

public import Idealize.ShloMosaic.PureOps
public import Idealize.ShloMosaic.Lib.WordSum
public import Idealize.ShloMosaic.Lib.Affine
public import Idealize.ShloMosaic.Lib.KernelVsHost
public import Idealize.ShloMosaic.Lib.ValueLayoutCasts
public import Idealize.ShloMosaic.Lib.Pointwise.Index
public import Idealize.ShloMosaic.PureOps.Ideal.Laws

@[expose] public section

noncomputable section

namespace Cert.RowSum

open Idealize.ShloMosaic

variable {m n : Nat}

theorem lift_row (h : (⟨2, ![m, n]⟩ : Shape).Reduces [1] (⟨1, ![m]⟩ : Shape)) (r : Fin m) (k : Fin n) :
    h.lift (a := 1) (ix1 r) k = ix2 r k := by
  funext c; apply Fin.ext
  match c with
  | ⟨0, _⟩ => rfl
  | ⟨1, _⟩ => rfl

/-- A kernel's row sum. -/
theorem sum_row (src : FVec Ideal ⟨2, ![m, n]⟩ .f32) (acc : BitVec 32) (h : (⟨2, ![m, n]⟩ : Shape).Reduces [1] (⟨1, ![m]⟩ : Shape))
    (hφ : FKind.Formats .f32) (hacc : acc = FKind.add.neutral .f32 hφ) (r : Fin m) :
    multiReduction .add [1] ⟨1, ![m]⟩ src acc h hφ hacc (ix1 r) = ∑ k : Fin n, src (ix2 r k) := by
  rw [Ideal.multiReduction_add_single]
  exact Finset.sum_congr rfl fun k _ => congrArg src (lift_row h r k)

/-- The host's row sum, from an initial value of zero. -/
theorem host_sum_row {u : Shape} (src : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (init : FVec Ideal u .f32) (hu : 0 < u.numel)
    (h0 : init (Shape.Idx.first hu) = 0) (r : Fin m) :
    Host.reduceAdd src init h' hu (ix1 r) = ∑ k : Fin n, src (ix2 r k) := by
  show Ideal.hostReduceAdd h' src (init (Shape.Idx.first hu)) (ix1 r) = _
  rw [Ideal.hostReduceAdd_single h' h, h0, zero_add]
  exact Finset.sum_congr rfl fun k _ => congrArg src (lift_row h r k)

/-- A vector laid out as a column. -/
theorem col_apply {α : Type} (x : (⟨1, ![m]⟩ : Shape).Idx → α) (h : (⟨1, ![m]⟩ : Shape).ShapeCasts ⟨2, ![m, 1]⟩) (r : Fin m) :
    shapeCast ⟨2, ![m, 1]⟩ x h (ix2 r 0) = x (ix1 r) :=
  ValueIdx.shapeCast_a_a1_apply x h r 0

/-- A column laid out as a vector. -/
theorem uncol_apply {α : Type} (x : (⟨2, ![m, 1]⟩ : Shape).Idx → α) (h : (⟨2, ![m, 1]⟩ : Shape).ShapeCasts ⟨1, ![m]⟩) (r : Fin m) :
    shapeCast ⟨1, ![m]⟩ x h (ix1 r) = x (ix2 r 0) :=
  shapeCast_apply x h (ix1 r) (ix2 r 0) (by
    rw [Shape.rowMajor_val_two, Shape.rowMajor_val_one]; show r.val * 1 + 0 = r.val; omega)

theorem select_at {α : Type} {s : Shape} (c : IVec s 1) (a b : s.Idx → α) (j : s.Idx) :
    select c a b j = if c j = 1#1 then a j else b j := rfl

theorem cmpi_at {s : Shape} {w : Nat} (p : CmpIPredicate) (x y : IVec s w) (j : s.Idx) : cmpi p x y j = IntOp.cmpi p (x j) (y j) := rfl

theorem toNat_mask (b : BitVec 1) (h : 1 < 32) : ((b.zeroExtend 32 : BitVec 32)).toNat = if b = 1#1 then 1 else 0 := by
  revert b; decide

theorem sum_mask {ι : Type} [Fintype ι] (p : ι → BitVec 1) :
    ∑ k, ((p k).zeroExtend 32 : BitVec 32).toNat = (Finset.univ.filter fun k => p k = 1#1).card := by
  rw [Finset.card_filter]
  exact Finset.sum_congr rfl fun k _ => toNat_mask _ (by decide)

/-- A kernel's word sum of a mask along a row counts the marked positions. -/
theorem count_row (p : IVec ⟨2, ![m, n]⟩ 1) (hw : 1 < 32) (h : (⟨2, ![m, n]⟩ : Shape).Reduces [1] (⟨1, ![m]⟩ : Shape))
    (hacc : (0#32 : BitVec 32) = IKind.add.neutral) (hn : n < 2 ^ 31) (r : Fin m) :
    (multiReductionI .add [1] ⟨1, ![m]⟩ (extui 32 p hw) 0#32 h hacc (ix1 r)).toInt
      = (Finset.univ.filter fun k : Fin n => p (ix2 r k) = 1#1).card := by
  have hs : ∑ i ∈ Finset.univ.filter (fun i => h.drop i = ix1 r), ((extui 32 p hw) i).toNat
      = (Finset.univ.filter fun k : Fin n => p (ix2 r k) = 1#1).card := by
    rw [h.sum_filter_drop_single (fun i => ((extui 32 p hw) i).toNat), ← sum_mask]
    exact Finset.sum_congr rfl fun k _ => congrArg (fun i => ((extui 32 p hw) i).toNat) (lift_row h r k)
  have hc : (Finset.univ.filter fun k : Fin n => p (ix2 r k) = 1#1).card ≤ n :=
    (Finset.card_le_univ _).trans (by simp)
  have ht := WordSum.toNat_multiReductionI_add (extui 32 p hw) h hacc (ix1 r) (by rw [hs]; omega)
  rw [hs] at ht
  rw [BitVec.toInt_eq_toNat_of_lt (by omega), ht]

/-- The host's word sum of a mask along a row, from zero, likewise. -/
theorem host_count_row {u : Shape} (p : IVec ⟨2, ![m, n]⟩ 1) (hw : 1 < 32) (h' : (⟨2, ![m, n]⟩ : Shape).ReducesTo [1] (⟨1, ![m]⟩ : Shape))
    (h : (⟨2, ![m, n]⟩ : Shape).Reduces [1] (⟨1, ![m]⟩ : Shape)) (init : IVec u 32) (hu : 0 < u.numel)
    (h0 : init (Shape.Idx.first hu) = 0#32) (hn : n < 2 ^ 31) (r : Fin m) :
    (Host.reduce IntOp.addi (extui 32 p hw) init h' hu (ix1 r)).toInt
      = (Finset.univ.filter fun k : Fin n => p (ix2 r k) = 1#1).card := by
  refine Eq.trans ?_ (count_row p hw h rfl hn r)
  congr 1
  rw [Host.reduce_eq_fold, h0, Shape.ReducesTo.drop_eq_drop h' h]
  exact (multiReductionI_eq_fold .add _ _ h rfl _).symm

end Cert.RowSum

end
-- ==== Proof.MainSums.lean ====
/-
  The main pass over the extended reals: the running sums after each grid point, the block of keys a point writes, and the
  row of sums the last point writes.
-/
module

public import proofs.«01_k».proof.Proof.MainSeen
public import proofs.«01_k».proof.Proof.MainKernel
public import proofs.«01_k».proof.Proof.RowSum

@[expose] public section

set_option maxRecDepth 16384

noncomputable section

namespace Cert.MainSums

open Idealize.ShloMosaic Idealize.ShloMosaic.TcCoe
open Cert.MainIdeal Cert.MainIdeal.Gen Cert.MainRun Cert.MainSeen Cert.MainKernel

section Values

variable (p q : MainSpec.Boxes) (x : MainSpec.Logits) (t : MainSpec.Targets) (r : Fin 64)

open Classical in
/-- What an anchor adds to the count of positives; nothing past the last anchor. -/
def add0 (n : ℕ) : EReal := if h : n < 24564 then (if MainSpec.Positive t r ⟨n, h⟩ then 1 else 0) else 0

open Classical in
/-- What an anchor adds to the positives' cross entropy. -/
def add1 (n : ℕ) : EReal := if h : n < 24564 then (if MainSpec.Positive t r ⟨n, h⟩ then MainSpec.loss x t r ⟨n, h⟩ else 0) else 0

open Classical in
/-- What an anchor's coordinate adds to the positives' distance. -/
def add2 (n : ℕ) (k : Fin 4) : EReal :=
  if h : n < 24564 then (if MainSpec.Positive t r ⟨n, h⟩ then MainSpec.smooth (p (ix3 r ⟨n, h⟩ k) - q (ix3 r ⟨n, h⟩ k)) else 0) else 0

/-- Lane by lane and block by block, each anchor is met once. -/
theorem blocks_sum (f : ℕ → EReal) (g : Fin 24564 → EReal) (hg : ∀ a : Fin 24564, f a.val = g a) (h0 : ∀ n, 24564 ≤ n → f n = 0) :
    ∑ l : Fin 128, ∑ b ∈ Finset.range 192, f (b * 128 + l.val) = ∑ a, g a := by
  rw [Finset.sum_comm, Finset.sum_range (fun b => ∑ l : Fin 128, f (b * 128 + l.val))]
  rw [← split_sum 192 128 24576 rfl (fun a => f a.val)]
  rw [Fin.sum_univ_eq_sum_range f 24576, show (24576 : ℕ) = 24564 + 12 from rfl, Finset.sum_range_add, Finset.sum_eq_zero (s := Finset.range 12) (fun n _ => h0 _ (by omega)), add_zero, Finset.sum_range]
  exact Finset.sum_congr rfl fun a _ => hg a

theorem sum0 : ∑ l : Fin 128, ∑ b ∈ Finset.range 192, add0 t r (b * 128 + l.val) = MainSpec.positives t r :=
  blocks_sum _ _ (fun a => dif_pos a.isLt) (fun _ h => dif_neg (by omega))

theorem sum1 : ∑ l : Fin 128, ∑ b ∈ Finset.range 192, add1 x t r (b * 128 + l.val) = MainSpec.positiveLoss x t r :=
  blocks_sum _ _ (fun a => dif_pos a.isLt) (fun _ h => dif_neg (by omega))

theorem sum2 : ∑ l : Fin 512, ∑ b ∈ Finset.range 192, add2 p q t r (b * 128 + l.val / 4) ⟨l.val % 4, Nat.mod_lt _ (by decide)⟩
    = MainSpec.boxLoss p q t r := by
  rw [split_sum 128 4 512 rfl]
  refine Eq.trans ?_ (blocks_sum (fun n => ∑ k : Fin 4, add2 p q t r n k) _
    (fun a => Finset.sum_congr rfl fun k _ => dif_pos a.isLt) (fun n h => Finset.sum_eq_zero fun k _ => dif_neg (by omega)))
  refine Finset.sum_congr rfl fun a _ => ?_
  rw [Finset.sum_comm]
  refine Finset.sum_congr rfl fun b _ => Finset.sum_congr rfl fun k _ => ?_
  have e1 : (a.val * 4 + k.val) / 4 = a.val := by omega
  have e2 : (a.val * 4 + k.val) % 4 = k.val := by omega
  simp only [e1, e2]

end Values

/-- Eight columns side by side. -/
abbrev sides (v : Fin 8 → FVec Ideal S64x1 .f32) : List ((s : Shape) × (s.Idx → Ideal .f32)) :=
  [⟨S64x1, v 0⟩, ⟨S64x1, v 1⟩, ⟨S64x1, v 2⟩, ⟨S64x1, v 3⟩, ⟨S64x1, v 4⟩, ⟨S64x1, v 5⟩, ⟨S64x1, v 6⟩, ⟨S64x1, v 7⟩]

theorem side_at (v : Fin 8 → FVec Ideal S64x1 .f32) (r : Fin 64) (o : Fin 8) :
    concatenate S64x8 1 (sides v) concatenates_S64x1_S64x1_S64x1_S64x1_S64x1_S64x1_S64x1_S64x1_S64x8_d1 (ix2 r o) = v o (ix2 r 0) := by
  have hi : ∀ b : Fin S64x1.rank, b.cast (rfl : S64x1.rank = S64x8.rank) ≠ 1 → ((ix2 r (0 : Fin 1) : S64x1.Idx) b).val = ((ix2 r o : S64x8.Idx) (b.cast rfl)).val := by
    intro b hb
    match b with
    | ⟨0, _⟩ => rfl
    | ⟨1, _⟩ => exact absurd rfl hb
  match o with
  | 0 => exact concatenate_apply_piece (t := S64x8) 1 (sides v) _ _ 0 (by show 0 < 8; decide) S64x1 (v 0) rfl rfl 0 rfl (ix2 r 0) hi rfl
  | 1 => exact concatenate_apply_piece (t := S64x8) 1 (sides v) _ _ 1 (by show 1 < 8; decide) S64x1 (v 1) rfl rfl 1 rfl (ix2 r 0) hi rfl
  | 2 => exact concatenate_apply_piece (t := S64x8) 1 (sides v) _ _ 2 (by show 2 < 8; decide) S64x1 (v 2) rfl rfl 2 rfl (ix2 r 0) hi rfl
  | 3 => exact concatenate_apply_piece (t := S64x8) 1 (sides v) _ _ 3 (by show 3 < 8; decide) S64x1 (v 3) rfl rfl 3 rfl (ix2 r 0) hi rfl
  | 4 => exact concatenate_apply_piece (t := S64x8) 1 (sides v) _ _ 4 (by show 4 < 8; decide) S64x1 (v 4) rfl rfl 4 rfl (ix2 r 0) hi rfl
  | 5 => exact concatenate_apply_piece (t := S64x8) 1 (sides v) _ _ 5 (by show 5 < 8; decide) S64x1 (v 5) rfl rfl 5 rfl (ix2 r 0) hi rfl
  | 6 => exact concatenate_apply_piece (t := S64x8) 1 (sides v) _ _ 6 (by show 6 < 8; decide) S64x1 (v 6) rfl rfl 6 rfl (ix2 r 0) hi rfl
  | 7 => exact concatenate_apply_piece (t := S64x8) 1 (sides v) _ _ 7 (by show 7 < 8; decide) S64x1 (v 7) rfl rfl 7 rfl (ix2 r 0) hi rfl

/-- The row of sums, column by column. -/
def columns (s0 s1 : FVec Ideal S64x128 .f32) (s2 : FVec Ideal S64x512 .f32) (o : Fin 8) : FVec Ideal S64x1 .f32 :=
  match o with
  | 0 => shapeCast S64x1 (multiReduction .add [1] S64 s0 0x00000000#32 reduces_S64x128_S64 (.inl rfl) rfl) shapeCasts_S64_S64x1
  | 1 => shapeCast S64x1 (multiReduction .add [1] S64 s1 0x00000000#32 reduces_S64x128_S64 (.inl rfl) rfl) shapeCasts_S64_S64x1
  | 2 => shapeCast S64x1 (multiReduction .add [1] S64 s2 0x00000000#32 reduces_S64x512_S64 (.inl rfl) rfl) shapeCasts_S64_S64x1
  | _ => broadcast S64x1 (Scalar.ofBits .f32 0x00000000#32 : Ideal .f32)

/-- The last point's row of sums. -/
theorem row_at (s0 s1 : FVec Ideal S64x128 .f32) (s2 : FVec Ideal S64x512 .f32) (r : Fin 64) (o : Fin 8) :
    (k0_pay1 (F := Ideal) s0 s1 s2 (ix2 r o) : EReal) = if o.val = 0 then ∑ l : Fin 128, s0 (ix2 r l) else if o.val = 1 then ∑ l : Fin 128, s1 (ix2 r l)
      else if o.val = 2 then ∑ l : Fin 512, s2 (ix2 r l) else 0 := by
  refine (side_at (columns s0 s1 s2) r o).trans ?_
  match o with
  | 0 => exact (RowSum.col_apply _ _ r).trans (RowSum.sum_row s0 _ _ _ _ r)
  | 1 => exact (RowSum.col_apply _ _ r).trans (RowSum.sum_row s1 _ _ _ _ r)
  | 2 => exact (RowSum.col_apply _ _ r).trans (RowSum.sum_row s2 _ _ _ _ r)
  | 3 => exact Ideal.ofBits_zero_f32
  | 4 => exact Ideal.ofBits_zero_f32
  | 5 => exact Ideal.ofBits_zero_f32
  | 6 => exact Ideal.ofBits_zero_f32
  | 7 => exact Ideal.ofBits_zero_f32

variable {m : (ℓ : Loc nD τ sig) → Buf (Elt Ideal) ℓ}

/-- The arrays a device starts from. -/
abbrev boxes (m : (ℓ : Loc nD τ sig) → Buf (Elt Ideal) ℓ) (c : Dev nD) : MainSpec.Boxes := m ((c.tc : Thread nD τ).loc main_arg0)
abbrev truths (m : (ℓ : Loc nD τ sig) → Buf (Elt Ideal) ℓ) (c : Dev nD) : MainSpec.Boxes := m ((c.tc : Thread nD τ).loc main_arg1)
abbrev logits (m : (ℓ : Loc nD τ sig) → Buf (Elt Ideal) ℓ) (c : Dev nD) : MainSpec.Logits := m ((c.tc : Thread nD τ).loc main_arg2)
abbrev targets (m : (ℓ : Loc nD τ sig) → Buf (Elt Ideal) ℓ) (c : Dev nD) : MainSpec.Targets := m ((c.tc : Thread nD τ).loc main_arg3)

variable (c : Dev nD) (t : Fin cfg0.N) (r : Fin 64)

theorem mark_iff (d0) (l : Fin 128) : k0_pay6 (grid0.coords t) (seen m c 0 t d0) (ix2 r l) = 1#1
    ↔ ∃ h : t.val * 128 + l.val < 24564, MainSpec.Positive (targets m c) r ⟨t.val * 128 + l.val, h⟩ := by
  rw [marked, MainBody.coord]
  constructor
  · rintro ⟨h1, h2⟩
    refine ⟨h2, ?_⟩
    rw [seen0 m c t d0 r l ⟨_, h2⟩ rfl] at h1
    exact h1
  · rintro ⟨h2, h1⟩
    refine ⟨?_, h2⟩
    rw [seen0 m c t d0 r l ⟨_, h2⟩ rfl]
    exact h1

theorem loss_seen (hf : MainSpec.Fine (logits m c) (targets m c)) (d0 d1 d4 d5) (l : Fin 128) (h : t.val * 128 + l.val < 24564) :
    (MainBody.loss (grid0.coords t) (seen m c 0 t d0) (seen m c 1 t d1) (seen m c 4 t d4) (seen m c 5 t d5) (ix2 r l) : EReal)
      = MainSpec.loss (logits m c) (targets m c) r ⟨t.val * 128 + l.val, h⟩ := by
  obtain ⟨hn, hlt⟩ := hf.target r ⟨_, h⟩
  refine loss_at (grid0.coords t) _ r _ _ _ (seen4 m c t d4) (seen5 m c t d5) l (by rw [MainBody.coord]; exact h) (fun k => logits m c (ix3 r ⟨_, h⟩ k))
    (fun k => hf.logit r _ k) (fun k => seen1 m c t d1 r _ ⟨_, h⟩ k (by show (t.val * 128 + l.val) * 21 + k.val = t.val * 2688 + (l.val * 21 + k.val); omega))
    (MainSpec.label (targets m c) r ⟨_, h⟩) ?_
  rw [seen0 m c t d0 r l ⟨_, h⟩ rfl]
  show (targets m c (ix2 r ⟨_, h⟩)).toInt = ((min (targets m c (ix2 r ⟨_, h⟩)).toInt.toNat 20 : ℕ) : ℤ)
  omega

theorem first_zero : MainBody.First (grid0.coords t) ↔ t.val = 0 := by
  have ht : t.val < 192 := Nat.lt_of_lt_of_eq t.isLt N_0
  rw [MainBody.first_iff]; omega

theorem next0_seen (d0) (s : Vec Ideal S64x128 .f32) (l : Fin 128) :
    (MainBody.next0 (grid0.coords t) (seen m c 0 t d0) s (ix2 r l) : EReal)
      = (if t.val = 0 then 0 else s (ix2 r l)) + add0 (targets m c) r (t.val * 128 + l.val) := by
  classical
  rw [next0_at]
  refine congrArg₂ (fun a b : EReal => a + b) (if_congr (first_zero t) rfl rfl) ?_
  unfold add0
  by_cases h : t.val * 128 + l.val < 24564
  · rw [dif_pos h]
    exact if_congr ((mark_iff c t r d0 l).trans ⟨fun ⟨_, e⟩ => e, fun e => ⟨h, e⟩⟩) rfl rfl
  · rw [dif_neg h, if_neg (fun e => h ((mark_iff c t r d0 l).1 e).1)]

theorem next1_seen (hf : MainSpec.Fine (logits m c) (targets m c)) (d0 d1 d4 d5) (s : Vec Ideal S64x128 .f32) (l : Fin 128) :
    (MainBody.next1 (grid0.coords t) (seen m c 0 t d0) (seen m c 1 t d1) (seen m c 4 t d4) (seen m c 5 t d5) s (ix2 r l) : EReal)
      = (if t.val = 0 then 0 else s (ix2 r l)) + add1 (logits m c) (targets m c) r (t.val * 128 + l.val) := by
  classical
  rw [next1_at]
  refine congrArg₂ (fun a b : EReal => a + b) (if_congr (first_zero t) rfl rfl) ?_
  unfold add1
  by_cases h : t.val * 128 + l.val < 24564
  · rw [dif_pos h]
    exact if_congr ((mark_iff c t r d0 l).trans ⟨fun ⟨_, e⟩ => e, fun e => ⟨h, e⟩⟩) (loss_seen c t r hf d0 d1 d4 d5 l h) rfl
  · rw [dif_neg h, if_neg (fun e => h ((mark_iff c t r d0 l).1 e).1)]

theorem next2_seen (d0 d2 d3 d6) (s : Vec Ideal S64x512 .f32) (l : Fin 512) :
    (MainBody.next2 (grid0.coords t) (seen m c 0 t d0) (seen m c 2 t d2) (seen m c 3 t d3) (seen m c 6 t d6) s (ix2 r l) : EReal)
      = (if t.val = 0 then 0 else s (ix2 r l)) + add2 (boxes m c) (truths m c) (targets m c) r (t.val * 128 + l.val / 4) ⟨l.val % 4, Nat.mod_lt _ (by decide)⟩ := by
  classical
  rw [next2_at _ _ r _ _ _ (seen6 m c t d6)]
  refine congrArg₂ (fun a b : EReal => a + b) (if_congr (first_zero t) rfl rfl) ?_
  unfold add2
  by_cases h : t.val * 128 + l.val / 4 < 24564
  · rw [dif_pos h]
    refine if_congr ((mark_iff c t r d0 _).trans ⟨fun ⟨_, e⟩ => e, fun e => ⟨h, e⟩⟩) ?_ rfl
    have e : (t.val * 128 + l.val / 4) * 4 + l.val % 4 = t.val * 512 + l.val := by omega
    rw [seen2 m c t d2 r l ⟨_, h⟩ ⟨l.val % 4, _⟩ e, seen3 m c t d3 r l ⟨_, h⟩ ⟨l.val % 4, _⟩ e]
  · rw [dif_neg h, if_neg (fun e => h ((mark_iff c t r d0 _).1 e).1)]

theorem keys_seen (hf : MainSpec.Fine (logits m c) (targets m c)) (d0 d1 d4 d5) (l : Fin 128) (a : Fin 24576) (ha : a.val = t.val * 128 + l.val) :
    (MainBody.keys (grid0.coords t) (seen m c 0 t d0) (seen m c 1 t d1) (seen m c 4 t d4) (seen m c 5 t d5) (ix2 r l) : EReal)
      = MainSpec.keyAt (logits m c) (targets m c) r a := by
  classical
  rw [keys_at, MainBody.coord]
  obtain ⟨a, hlt⟩ := a
  dsimp only at ha
  subst ha
  unfold MainSpec.keyAt
  dsimp only
  by_cases h : t.val * 128 + l.val < 24564
  · rw [if_pos h, dif_pos h, seen0 m c t d0 r l ⟨_, h⟩ rfl]
    exact if_congr Iff.rfl rfl (loss_seen c t r hf d0 d1 d4 d5 l h)
  · rw [if_neg h, dif_neg h]

/-- The running sums before a point: over the blocks already met, lane by lane. -/
def Summed (m : (ℓ : Loc nD τ sig) → Buf (Elt Ideal) ℓ) (c : Dev nD) (n : ℕ) (s0 s1 : FVec Ideal S64x128 .f32) (s2 : FVec Ideal S64x512 .f32) : Prop :=
  (∀ r l, (s0 (ix2 r l) : EReal) = ∑ b ∈ Finset.range n, add0 (targets m c) r (b * 128 + l.val))
    ∧ (∀ r l, (s1 (ix2 r l) : EReal) = ∑ b ∈ Finset.range n, add1 (logits m c) (targets m c) r (b * 128 + l.val))
    ∧ ∀ r (l : Fin 512), (s2 (ix2 r l) : EReal) = ∑ b ∈ Finset.range n, add2 (boxes m c) (truths m c) (targets m c) r (b * 128 + l.val / 4) ⟨l.val % 4, Nat.mod_lt _ (by decide)⟩

/-- One more block. -/
theorem one_more (n : ℕ) (s y : EReal) (f : ℕ → EReal) (h : n ≠ 0 → s = ∑ b ∈ Finset.range n, f b) (hy : y = (if n = 0 then 0 else s) + f n) :
    y = ∑ b ∈ Finset.range (n + 1), f b := by
  rw [Finset.sum_range_succ, hy]
  by_cases hn : n = 0
  · subst hn; simp
  · rw [if_neg hn, h hn]

theorem summed_step (hf : MainSpec.Fine (logits m c) (targets m c)) (d0 d1 d2 d3 d4 d5 d6) (s0 s1 : FVec Ideal S64x128 .f32) (s2 : FVec Ideal S64x512 .f32)
    (h : t.val ≠ 0 → Summed m c t.val s0 s1 s2) :
    Summed m c (t.val + 1) (MainBody.next0 (grid0.coords t) (seen m c 0 t d0) s0)
      (MainBody.next1 (grid0.coords t) (seen m c 0 t d0) (seen m c 1 t d1) (seen m c 4 t d4) (seen m c 5 t d5) s1)
      (MainBody.next2 (grid0.coords t) (seen m c 0 t d0) (seen m c 2 t d2) (seen m c 3 t d3) (seen m c 6 t d6) s2) :=
  ⟨fun r l => one_more t.val _ _ (fun b => add0 (targets m c) r (b * 128 + l.val)) (fun hn => (h hn).1 r l) (next0_seen c t r d0 s0 l),
    fun r l => one_more t.val _ _ (fun b => add1 (logits m c) (targets m c) r (b * 128 + l.val)) (fun hn => (h hn).2.1 r l) (next1_seen c t r hf d0 d1 d4 d5 s1 l),
    fun r l => one_more t.val _ _ (fun b => add2 (boxes m c) (truths m c) (targets m c) r (b * 128 + l.val / 4) ⟨l.val % 4, Nat.mod_lt _ (by decide)⟩)
      (fun hn => (h hn).2.2 r l) (next2_seen c t r d0 d2 d3 d6 s2 l)⟩

theorem row_of_summed (s0 s1 : FVec Ideal S64x128 .f32) (s2 : FVec Ideal S64x512 .f32) (h : Summed m c 192 s0 s1 s2) :
    k0_pay1 (F := Ideal) s0 s1 s2 = MainSpec.stats (boxes m c) (truths m c) (logits m c) (targets m c) := by
  funext j
  obtain ⟨r, o, rfl⟩ : ∃ (r : Fin 64) (o : Fin 8), j = ix2 r o := ⟨j 0, j 1, eq_ix2 j⟩
  refine (row_at s0 s1 s2 r o).trans ?_
  refine if_congr Iff.rfl ?_ (if_congr Iff.rfl ?_ (if_congr Iff.rfl ?_ rfl))
  · exact (Finset.sum_congr rfl fun l _ => h.1 _ l).trans (sum0 _ _)
  · exact (Finset.sum_congr rfl fun l _ => h.2.1 _ l).trans (sum1 _ _ _)
  · exact (Finset.sum_congr rfl fun l _ => h.2.2 _ l).trans (sum2 _ _ _ _)

/-- What the pass keeps. -/
def kept (m : (ℓ : Loc nD τ sig) → Buf (Elt Ideal) ℓ) (hf : ∀ c, MainSpec.Fine (logits m c) (targets m c)) : Kept m where
  scratch c n s0 s1 s2 := n ≠ 0 → Summed m c n s0 s1 s2
  keyBlock c t X := ∀ (j : S64x128.Idx) (i : S64x24576.Idx), (i 0).val = (j 0).val → (i 1).val = t.val * 128 + (j 1).val →
    X j = MainSpec.keys (logits m c) (targets m c) i
  stats c X := X = MainSpec.stats (boxes m c) (truths m c) (logits m c) (targets m c)
  zero _ _ _ _ h := absurd rfl h
  step c t d0 d1 d2 d3 d4 d5 d6 s0 s1 s2 h := by
    have hs := summed_step c t (hf c) d0 d1 d2 d3 d4 d5 d6 s0 s1 s2 h
    refine ⟨fun _ => hs, fun j i h0 h1 => ?_, fun hl => ?_⟩
    · obtain ⟨r, l, rfl⟩ : ∃ (r : Fin 64) (l : Fin 128), j = ix2 r l := ⟨j 0, j 1, eq_ix2 j⟩
      refine (keys_seen c t r (hf c) d0 d1 d4 d5 l (i 1) h1).trans ?_
      exact congrArg (fun b => MainSpec.keyAt (logits m c) (targets m c) b (i 1)) (Fin.ext h0.symm : r = i 0)
    · have ht : t.val < 192 := Nat.lt_of_lt_of_eq t.isLt N_0
      refine row_of_summed c _ _ _ ?_
      have e : t.val + 1 = 192 := by omega
      rw [← e]
      exact hs

end Cert.MainSums

end
-- ==== Proof.MainReference.lean ====
/-
  What the reference of the loss pass computes over the extended reals.
-/
module

public import proofs.«01_k».proof.Defs
public import proofs.«01_k».proof.Proof.MainSpec
public import proofs.«01_k».proof.Proof.RowSum
public import proofs.«01_k».proof.Proof.Gen.MainRefIdeal.Run
public import Idealize.ShloMosaic.Lib.ReduceAll
public import Idealize.ShloMosaic.Lib.IdealHost

@[expose] public section

set_option maxRecDepth 16384

noncomputable section

namespace Cert.MainReference

open Idealize.ShloMosaic Idealize.SL.Sem Cert.MainRefIdeal Cert.MainRefIdeal.Gen Cert.RowSum Cert.MainSpec

variable (p q : Boxes) (x : Logits) (t : Targets)

def over : IVec S64x24564 1 := cmpi .sgt t (broadcastInDim S64x24564 ![] bcast_S_S64x24564 (constantI S_ 32 0#32))

/-- The targets kept between the first and the last class. -/
def clipped : IVec S64x24564x1 32 :=
  broadcastInDim S64x24564x1 ![0, 1] bcast_S64x24564_S64x24564x1_0_1
    (minsi (broadcastInDim S64x24564 ![] bcast_S_S64x24564 (id (constantI S_ 32 20#32)))
      (maxsi (broadcastInDim S64x24564 ![] bcast_S_S64x24564 (id (constantI S_ 32 0#32))) t))

/-- The place of each anchor's logit. -/
def place : IVec S64x24564x1x1 32 :=
  shapeCast _ (select (cmpi .slt (clipped t) (broadcastInDim S64x24564x1 ![] bcast_S_S64x24564x1 (constantI S_ 32 0#32)))
    (addi (clipped t) (broadcastInDim S64x24564x1 ![] bcast_S_S64x24564x1 (constantI S_ 32 21#32))) (clipped t)) shapeCasts_S64x24564x1_S64x24564x1x1

def inside : IVec S64x24564x1x1 1 :=
  andi (cmpi .sge (place t) (broadcastInDim S64x24564x1x1 ![] bcast_S_S64x24564x1x1 (constantI S_ 32 0#32)))
    (cmpi .sle (place t) (broadcastInDim S64x24564x1x1 ![0, 1, 2, 3] bcast_S1x1x1x1_S64x24564x1x1_0_1_2_3
      (broadcastInDim S1x1x1x1 ![3] bcast_S1_S1x1x1x1_3 (constantI S1 32 20#32))))

def gathered : FVec Ideal S64x24564x1 .f32 := Host.gather gather_S64x24564x21_S64x24564x1x1_S64x24564x1_n_2_01_01_2_3_111 x (place t)

def taken : FVec Ideal S64x24564x1 .f32 :=
  select (Host.reduce IntOp.andi (inside t) (constantI S_ 1 1#1) reducesTo_S64x24564x1x1_S64x24564x1_d3 h_S_)
    (gathered x t) (broadcastInDim S64x24564x1 ![] bcast_S_S64x24564x1 (constant S_ .f32 0x7FC00000#32))

def spread : FVec Ideal S64x24564 .f32 :=
  Host.log (Host.reduceAdd (Host.exp x) (constant S_ .f32 0x00000000#32) reducesTo_S64x24564x21_S64x24564_d2 h_S_)

def entropy : FVec Ideal S64x24564 .f32 :=
  select (cmpi .slt t (broadcastInDim S64x24564 ![] bcast_S_S64x24564 (constantI S_ 32 0#32)))
    (broadcastInDim S64x24564 ![] bcast_S_S64x24564 (id (constant S_ .f32 0x00000000#32)))
    (subf (spread x) (shapeCast _ (taken x t) shapeCasts_S64x24564x1_S64x24564))

theorem over_iff (r : Fin 64) (a : Fin 24564) : over t (ix2 r a) = 1#1 ↔ Positive t r a := by
  unfold over Positive
  rw [cmpi_at]
  exact IntOp.cmpi_sgt

theorem word_clip (b : BitVec 32) (h : 0 ≤ b.toInt ∧ b.toInt < 21) : IntOp.minsi 20#32 (IntOp.maxsi 0#32 b) = b := by
  obtain ⟨h0, h1⟩ := h
  have e : IntOp.maxsi 0#32 b = b := by
    unfold IntOp.maxsi
    by_cases hb : b.slt 0#32 = true
    · rw [BitVec.slt_iff_toInt_lt] at hb
      exact absurd hb (not_lt.2 h0)
    · rw [if_neg hb]
  rw [e]
  unfold IntOp.minsi
  by_cases hb : (20#32).slt b = true
  · rw [BitVec.slt_iff_toInt_lt] at hb
    have h2 : (20#32 : BitVec 32).toInt = 20 := rfl
    omega
  · rw [if_neg hb]

variable {x t}

theorem clipped_apply (h : Fine x t) (r : Fin 64) (a : Fin 24564) : clipped t (ix3 r a 0) = t (ix2 r a) := by
  have e : clipped t (ix3 r a 0) = IntOp.minsi 20#32 (IntOp.maxsi 0#32 (t (ix2 r a))) := by
    unfold clipped
    refine (broadcastInDim_apply (s := S64x24564) (t := S64x24564x1) ![0, 1] bcast_S64x24564_S64x24564x1_0_1 _ (ix3 r a 0) (ix2 r a) ?_).trans rfl
    intro b
    match b with
    | ⟨0, _⟩ => rfl
    | ⟨1, _⟩ => rfl
  rw [e, word_clip _ (h.target r a)]

theorem place_apply (h : Fine x t) (r : Fin 64) (a : Fin 24564) : place t (ix4 r a 0 0) = t (ix2 r a) := by
  unfold place
  refine (shapeCast_apply _ _ (ix4 r a 0 0) (ix3 r a 0) ?_).trans ?_
  · rw [Shape.rowMajor_val_three, Shape.rowMajor_val_four]
    show (r.val * 24564 + a.val) * 1 + 0 = ((r.val * 24564 + a.val) * 1 + 0) * 1 + 0
    omega
  · rw [select_at, cmpi_at, if_neg, clipped_apply h]
    rw [IntOp.cmpi_slt, clipped_apply h]
    exact not_lt.2 (h.target r a).1

theorem inside_apply (h : Fine x t) (r : Fin 64) (a : Fin 24564) : inside t (ix4 r a 0 0) = 1#1 := by
  have h1 : IntOp.cmpi .sge (place t (ix4 r a 0 0)) 0#32 = 1#1 := by
    rw [IntOp.cmpi_sge, place_apply h]; exact (h.target r a).1
  have h2 : IntOp.cmpi .sle (place t (ix4 r a 0 0)) 20#32 = 1#1 := by
    rw [IntOp.cmpi_sle, place_apply h]; exact Int.lt_add_one_iff.1 (h.target r a).2
  exact (congrArg₂ (fun u v : BitVec 1 => u &&& v) h1 h2).trans rfl

theorem gathered_apply (h : Fine x t) (r : Fin 64) (a : Fin 24564) : gathered x t (ix3 r a 0) = x (ix3 r a (label t r a)) := by
  unfold gathered Host.gather
  refine congrArg x (funext fun b => Fin.ext ?_)
  let d := gather_S64x24564x21_S64x24564x1x1_S64x24564x1_n_2_01_01_2_3_111
  show d.start (ix3 r a 0) (place t) b + d.batchCoord (ix3 r a 0) b + d.offCoord (ix3 r a 0) b = _
  have hb : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases hb with rfl | rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide)]
    have hsi : ∀ k, d.siIdx (ix3 r a 0) k = ix4 r a 0 0 := by
      intro k
      funext c; refine Fin.ext ?_
      match c with
      | ⟨0, _⟩ => rfl
      | ⟨1, _⟩ => rfl
      | ⟨2, _⟩ => rfl
      | ⟨3, _⟩ => exact congrArg Fin.val (Subsingleton.elim (α := Fin 1) _ _)
    rw [hsi, place_apply h]
    rfl

theorem taken_apply (h : Fine x t) (r : Fin 64) (a : Fin 24564) : taken x t (ix3 r a 0) = x (ix3 r a (label t r a)) := by
  unfold taken
  rw [select_at, if_pos, gathered_apply h]
  refine Host.reduce_andi_one _ _ _ _ _ rfl fun i => ?_
  have hi : i = ix4 (i 0) (i 1) 0 0 := by
    funext b
    match b with
    | ⟨0, _⟩ => rfl
    | ⟨1, _⟩ => rfl
    | ⟨2, _⟩ => exact Subsingleton.elim (α := Fin 1) _ _
    | ⟨3, _⟩ => exact Subsingleton.elim (α := Fin 1) _ _
  rw [hi]
  exact inside_apply h _ _

theorem log_at {s : Shape} (f : FVec Ideal s .f32) (j : s.Idx) : Host.log f j = Ideal.log (f j) := rfl

theorem zero_at {s : Shape} (j : s.Idx) : constant (F := Ideal) s .f32 0x00000000#32 j = 0 := Ideal.ofBits_zero_f32

theorem spread_apply (r : Fin 64) (a : Fin 24564) :
    spread x (ix2 r a) = Ideal.log (∑ c : Fin 21, Ideal.exp (x (ix3 r a c))) := by
  unfold spread
  rw [log_at]
  refine congrArg Ideal.log ?_
  rw [ValueIdx.hostReduceAdd_apply]
  unfold Ideal.hostReduceAdd
  rw [zero_at, zero_add, Finset.sum_filter, sum_idx3]
  have hd : ∀ (r' : Fin 64) (a' : Fin 24564) (c : Fin 21), reducesTo_S64x24564x21_S64x24564_d2.drop (ix3 r' a' c) = ix2 r' a' := by
    intro r' a' c
    funext b
    match b with
    | ⟨0, _⟩ => rfl
    | ⟨1, _⟩ => rfl
  rw [Finset.sum_eq_single r, Finset.sum_eq_single a]
  · exact Finset.sum_congr rfl fun c _ => if_pos (hd r a c)
  · exact fun a' _ hne => Finset.sum_eq_zero fun c _ => if_neg fun e => hne (congrFun (show ix2 r a' = ix2 r a from (hd r a' c).symm.trans e) 1)
  · exact fun hn => absurd (Finset.mem_univ _) hn
  · exact fun r' _ hne => Finset.sum_eq_zero fun a' _ => Finset.sum_eq_zero fun c _ => if_neg fun e => hne (congrFun (show ix2 r' a' = ix2 r a from (hd r' a' c).symm.trans e) 0)
  · exact fun hn => absurd (Finset.mem_univ _) hn

theorem entropy_apply (h : Fine x t) (r : Fin 64) (a : Fin 24564) : entropy x t (ix2 r a) = loss x t r a := by
  unfold entropy loss
  rw [select_at, cmpi_at, if_neg]
  · refine congrArg₂ (fun u v : EReal => u - v) (spread_apply r a) ?_
    refine (shapeCast_apply _ _ (ix2 r a) (ix3 r a 0) ?_).trans (taken_apply h r a)
    rw [Shape.rowMajor_val_three, Shape.rowMajor_val_two]
    show (r.val * 24564 + a.val) * 1 + 0 = r.val * 24564 + a.val
    omega
  · exact fun e => absurd (IntOp.cmpi_slt.1 e) (not_lt.2 (h.target r a).1)

/-- The first result. -/
def outKeys (x : Logits) (t : Targets) : FVec Ideal S64x24576 .f32 :=
  pad S64x24576 ![0, 0] ![0, 12] ![0, 0]
    (select (over t) (broadcastInDim S64x24564 ![] bcast_S_S64x24564 (id (constant S_ .f32 0xBF800000#32))) (entropy x t))
    (id (constant S_ .f32 0xBF800000#32)) pads_S64x24564_S64x24576_000_0120 h_S_

theorem outKeys_eq (h : Fine x t) : outKeys x t = MainSpec.keys x t := by
  funext j
  obtain ⟨r, a, rfl⟩ : ∃ (r : Fin 64) (a : Fin 24576), j = ix2 r a := ⟨j 0, j 1, eq_ix2 j⟩
  show outKeys x t (ix2 r a) = keyAt x t r a
  classical
  unfold outKeys keyAt
  split
  · rename_i ha
    refine (pad_apply_of_inside _ _ _ _ _ _ _ (ix2 r a) (ix2 r ⟨a.val, ha⟩) ?_).trans ?_
    · intro b
      match b with
      | ⟨0, _⟩ => show r.val = 0 + r.val * (0 + 1); omega
      | ⟨1, _⟩ => show a.val = 0 + a.val * (0 + 1); omega
    · rw [select_at, entropy_apply h]
      exact if_congr (over_iff t r _) rfl rfl
  · rename_i ha
    refine (pad_apply_of_not_inside _ _ _ _ _ _ _ (ix2 r a) (1 : Fin 2) ?_).trans rfl
    intro hin
    have := hin.2.2
    exact ha (by simpa using this)

def distance (p q : Boxes) : FVec Ideal S64x24564x4 .f32 :=
  select (cmpf .olt (Host.absf (subf p q)) (broadcastInDim S64x24564x4 ![] bcast_S_S64x24564x4 (constant S_ .f32 0x3F800000#32)))
    (mulf (mulf (broadcastInDim S64x24564x4 ![] bcast_S_S64x24564x4 (constant S_ .f32 0x3F000000#32)) (subf p q)) (subf p q))
    (subf (Host.absf (subf p q)) (broadcastInDim S64x24564x4 ![] bcast_S_S64x24564x4 (constant S_ .f32 0x3F000000#32)))

def boxes (p q : Boxes) (t : Targets) : FVec Ideal S64x24564x4 .f32 :=
  mulf (distance p q) (broadcastInDim S64x24564x4 ![0, 1, 2] bcast_S64x24564x1_S64x24564x4_0_1_2
    (uitofp .f32 (broadcastInDim S64x24564x1 ![0, 1] bcast_S64x24564_S64x24564x1_0_1 (over t))))

theorem distance_apply (j : S64x24564x4.Idx) : distance p q j = smooth (p j - q j) := by
  unfold distance smooth
  rw [select_at]
  refine if_congr ?_ rfl rfl
  show BitVec.ofBool (decide _) = 1#1 ↔ _
  by_cases hlt : max (p j - q j) (-(p j - q j)) < one
  · exact iff_of_true (congrArg BitVec.ofBool (decide_eq_true hlt)) hlt
  · exact iff_of_false (fun e => absurd ((congrArg BitVec.ofBool (decide_eq_false hlt)).symm.trans e) (by decide)) hlt

theorem unit_mask (b : BitVec 1) : (((b.toNat : ℝ)) : EReal) = if b = 1#1 then 1 else 0 := by
  obtain rfl | rfl : b = 0#1 ∨ b = 1#1 := by revert b; decide
  · simp
  · simp

open Classical in
theorem boxes_apply (r : Fin 64) (a : Fin 24564) (k : Fin 4) :
    boxes p q t (ix3 r a k) = if Positive t r a then smooth (p (ix3 r a k) - q (ix3 r a k)) else 0 := by
  have e : boxes p q t (ix3 r a k) = distance p q (ix3 r a k) * ((((over t (ix2 r a)).toNat : ℝ)) : EReal) := by
    unfold boxes
    refine congrArg (fun z : EReal => distance p q (ix3 r a k) * z) ?_
    refine (broadcastInDim_apply (s := S64x24564x1) (t := S64x24564x4) ![0, 1, 2] bcast_S64x24564x1_S64x24564x4_0_1_2 _ (ix3 r a k) (ix3 r a 0) ?_).trans ?_
    · intro b
      match b with
      | ⟨0, _⟩ => rfl
      | ⟨1, _⟩ => rfl
      | ⟨2, _⟩ => rfl
    · refine congrArg (fun b : BitVec 1 => (((b.toNat : ℝ)) : EReal)) ?_
      refine broadcastInDim_apply (s := S64x24564) (t := S64x24564x1) ![0, 1] bcast_S64x24564_S64x24564x1_0_1 _ (ix3 r a 0) (ix2 r a) ?_
      intro b
      match b with
      | ⟨0, _⟩ => rfl
      | ⟨1, _⟩ => rfl
  rw [e, unit_mask, distance_apply]
  by_cases hp : Positive t r a
  · rw [if_pos hp, if_pos ((over_iff t r a).2 hp), mul_one]
  · rw [if_neg hp, if_neg fun e => hp ((over_iff t r a).1 e), mul_zero]

/-- The three columns. -/
def count (t : Targets) : FVec Ideal S64 .f32 := Host.reduceAdd (uitofp .f32 (over t)) (constant S_ .f32 0x00000000#32) reducesTo_S64x24564_S64_d1 h_S_
def lossSum (x : Logits) (t : Targets) : FVec Ideal S64 .f32 :=
  Host.reduceAdd (select (over t) (entropy x t) (broadcastInDim S64x24564 ![] bcast_S_S64x24564 (id (constant S_ .f32 0x00000000#32))))
    (constant S_ .f32 0x00000000#32) reducesTo_S64x24564_S64_d1 h_S_
def boxSum (p q : Boxes) (t : Targets) : FVec Ideal S64 .f32 :=
  Host.reduceAdd (boxes p q t) (constant S_ .f32 0x00000000#32) reducesTo_S64x24564x4_S64_d1_2 h_S_

theorem row_sum (f : FVec Ideal S64x24564 .f32) (r : Fin 64) :
    Host.reduceAdd f (constant S_ .f32 0x00000000#32) reducesTo_S64x24564_S64_d1 h_S_ (ix1 r) = ∑ a : Fin 24564, f (ix2 r a) :=
  host_sum_row f _ (by decide) _ _ Ideal.ofBits_zero_f32 r

theorem count_apply (r : Fin 64) : count t (ix1 r) = positives t r := by
  classical
  unfold count positives
  rw [row_sum]
  refine Finset.sum_congr rfl fun a _ => (unit_mask _).trans ?_
  exact if_congr (over_iff t r a) rfl rfl

theorem lossSum_apply (h : Fine x t) (r : Fin 64) : lossSum x t (ix1 r) = positiveLoss x t r := by
  classical
  unfold lossSum positiveLoss
  rw [row_sum]
  refine Finset.sum_congr rfl fun a _ => ?_
  rw [select_at, entropy_apply h]
  exact if_congr (over_iff t r a) rfl Ideal.ofBits_zero_f32

theorem boxSum_apply (r : Fin 64) : boxSum p q t (ix1 r) = boxLoss p q t r := by
  unfold boxSum boxLoss
  show Ideal.hostReduceAdd reducesTo_S64x24564x4_S64_d1_2 (boxes p q t) (Ideal.ofBits .f32 0x00000000#32) (ix1 r) = _
  unfold Ideal.hostReduceAdd
  rw [Ideal.ofBits_zero_f32, zero_add, Finset.sum_filter, sum_idx3]
  have hd : ∀ (r' : Fin 64) (a : Fin 24564) (k : Fin 4), reducesTo_S64x24564x4_S64_d1_2.drop (ix3 r' a k) = ix1 r' := by
    intro r' a k
    funext b
    match b with
    | ⟨0, _⟩ => rfl
  rw [Finset.sum_eq_single r]
  · exact Finset.sum_congr rfl fun a _ => Finset.sum_congr rfl fun k _ => (if_pos (hd r a k)).trans (boxes_apply p q r a k)
  · exact fun r' _ hne => Finset.sum_eq_zero fun a' _ => Finset.sum_eq_zero fun c _ => if_neg fun e => hne (congrFun (show ix1 r' = ix1 r from (hd r' a' c).symm.trans e) 0)
  · exact fun hn => absurd (Finset.mem_univ _) hn

def column (v : FVec Ideal S64 .f32) : FVec Ideal S64x1 .f32 := broadcastInDim S64x1 ![0] bcast_S64_S64x1_0 v

theorem column_apply (v : FVec Ideal S64 .f32) (r : Fin 64) : column v (ix2 r 0) = v (ix1 r) := by
  refine broadcastInDim_apply (s := S64) (t := S64x1) ![0] bcast_S64_S64x1_0 _ (ix2 r 0) (ix1 r) ?_
  intro b
  match b with
  | ⟨0, _⟩ => rfl

abbrev pieces (u v w : FVec Ideal S64 .f32) : List ((s : Shape) × (s.Idx → EReal)) := [⟨S64x1, column u⟩, ⟨S64x1, column v⟩, ⟨S64x1, column w⟩]

def beside (u v w : FVec Ideal S64 .f32) : FVec Ideal S64x3 .f32 :=
  concatenate S64x3 1 [⟨S64x1, (column u : (⟨S64x1, .f32⟩ : BufTy).Contents (Elt Ideal))⟩, ⟨S64x1, (column v : (⟨S64x1, .f32⟩ : BufTy).Contents (Elt Ideal))⟩, ⟨S64x1, (column w : (⟨S64x1, .f32⟩ : BufTy).Contents (Elt Ideal))⟩] concatenates_S64x1_S64x1_S64x1_S64x3_d1

theorem beside_apply (u v w : FVec Ideal S64 .f32) (r : Fin 64) (o : Fin 3) :
    beside u v w (ix2 r o) = (![u, v, w] o) (ix1 r) := by
  unfold beside
  match o with
  | 0 =>
    refine (concatenate_apply_piece (t := S64x3) 1 (pieces u v w) concatenates_S64x1_S64x1_S64x1_S64x3_d1 _ 0 (by show 0 < 3; decide) S64x1 (column u) rfl rfl 0 rfl (ix2 r 0) ?_ rfl).trans (column_apply u r)
    intro b hb
    match b with
    | ⟨0, _⟩ => rfl
    | ⟨1, _⟩ => exact absurd rfl hb
  | 1 =>
    refine (concatenate_apply_piece (t := S64x3) 1 (pieces u v w) concatenates_S64x1_S64x1_S64x1_S64x3_d1 _ 1 (by show 1 < 3; decide) S64x1 (column v) rfl rfl 1 rfl (ix2 r 0) ?_ rfl).trans (column_apply v r)
    intro b hb
    match b with
    | ⟨0, _⟩ => rfl
    | ⟨1, _⟩ => exact absurd rfl hb
  | 2 =>
    refine (concatenate_apply_piece (t := S64x3) 1 (pieces u v w) concatenates_S64x1_S64x1_S64x1_S64x3_d1 _ 2 (by show 2 < 3; decide) S64x1 (column w) rfl rfl 2 rfl (ix2 r 0) ?_ rfl).trans (column_apply w r)
    intro b hb
    match b with
    | ⟨0, _⟩ => rfl
    | ⟨1, _⟩ => exact absurd rfl hb

/-- The second result. -/
def outStats (p q : Boxes) (x : Logits) (t : Targets) : FVec Ideal S64x8 .f32 :=
  pad S64x8 ![0, 0] ![0, 5] ![0, 0] (beside (count t) (lossSum x t) (boxSum p q t))
    (sitofp .f32 (constantI S_ 32 0#32)) pads_S64x3_S64x8_000_050 h_S_

theorem outStats_eq (h : Fine x t) : outStats p q x t = MainSpec.stats p q x t := by
  funext j
  obtain ⟨r, o, rfl⟩ : ∃ (r : Fin 64) (o : Fin 8), j = ix2 r o := ⟨j 0, j 1, eq_ix2 j⟩
  show outStats p q x t (ix2 r o) = statAt p q x t r o
  unfold outStats statAt
  by_cases ho : o.val < 3
  · refine (pad_apply_of_inside _ _ _ _ _ _ _ (ix2 r o) (ix2 r ⟨o.val, ho⟩) ?_).trans ?_
    · intro b
      match b with
      | ⟨0, _⟩ => show r.val = 0 + r.val * (0 + 1); omega
      | ⟨1, _⟩ => show o.val = 0 + o.val * (0 + 1); omega
    · rw [beside_apply]
      obtain ⟨o, ho'⟩ := o
      match o with
      | 0 => exact count_apply r
      | 1 => exact lossSum_apply h r
      | 2 => exact boxSum_apply p q r
      | n + 3 => exact absurd ho (by simp)
  · refine (pad_apply_of_not_inside _ _ _ _ _ _ _ (ix2 r o) (1 : Fin 2) ?_).trans ?_
    · intro hin
      have := hin.2.2
      exact ho (by simpa using this)
    · rw [if_neg (by omega), if_neg (by omega), if_neg (by omega)]
      show ((((0#32 : BitVec 32).toInt : ℝ)) : EReal) = 0
      simp

theorem run (m : (ℓ : Loc nD τ sig) → Buf (Elt Ideal) ℓ) (c : Dev nD) :
    Value.res_main_v33 m c = outKeys (m ((c.tc : Thread nD τ).loc main_arg2)) (m ((c.tc : Thread nD τ).loc main_arg3))
    ∧ Value.res_main_v38 m c = outStats (m ((c.tc : Thread nD τ).loc main_arg0)) (m ((c.tc : Thread nD τ).loc main_arg1))
        (m ((c.tc : Thread nD τ).loc main_arg2)) (m ((c.tc : Thread nD τ).loc main_arg3)) := ⟨rfl, rfl⟩

theorem reference_frame : Cert.quiescent_MainRefIdeal := by
  intro m g _
  exact (θ_run Cert.MainRefIdeal.defs _ _).mono (fun r h => ⟨fun c => (h c).2.2, sem_eq_zero_of_no_sems (by decide) r.2⟩)
    (Value.run m g)

end Cert.MainReference

end
-- ==== Proof.MainValue.lean ====
/-
  The main pass and its reference agree under the precondition: both leave the mining keys and the rows of sums of the
  same anchors.
-/
module

public import proofs.«01_k».proof.Defs
public import proofs.«01_k».proof.Proof.MainFrame
public import proofs.«01_k».proof.Proof.MainSums
public import proofs.«01_k».proof.Proof.MainReference
public import proofs.«01_k».proof.Proof.Gen.Pre_main_pre
public import Idealize.ShloMosaic.Lib.ReduceAll

@[expose] public section

set_option maxRecDepth 16384

noncomputable section

namespace Cert.MainValue

open Idealize.ShloMosaic Idealize.SL.Sem Cert.MainIdeal

theorem infinite_word : (Ideal.ofBits .f32 0x7F800000#32 : EReal) = ⊤ := by simp [Ideal.ofBits, Ideal.ieee]

theorem real_of_abs {x : EReal} (h : max x (-x) < ⊤) : x ≠ ⊤ ∧ x ≠ ⊥ := by
  constructor
  · rintro rfl; simp at h
  · rintro rfl; simp at h

/-- What the precondition says. -/
theorem decode (p q : MainSpec.Boxes) (x : MainSpec.Logits) (t : MainSpec.Targets)
    (h : Cert.Pre_main_pre.fn (F := Ideal) p q x t = fun _ => 1#1) : MainSpec.Fine x t := by
  have h0 := congrFun h (fun b => b.elim0)
  unfold Cert.Pre_main_pre.fn at h0
  dsimp only at h0
  obtain ⟨h1, h2⟩ := (MainKernel.and_iff _ _).1 h0
  refine ⟨fun r a => ?_, fun r a c => ?_⟩
  · obtain ⟨h3, h4⟩ := (MainKernel.and_iff _ _).1 (Host.reduce_andi_all _ _ _ _ _ h1 (ix2 r a))
    exact ⟨IntOp.cmpi_sge.1 h3, IntOp.cmpi_slt.1 h4⟩
  · have h3 : BitVec.ofBool (decide (max (x (ix3 r a c)) (-(x (ix3 r a c))) < Ideal.ofBits .f32 0x7F800000#32)) = 1#1 :=
      Host.reduce_andi_all _ _ _ _ _ h2 (ix3 r a c)
    rw [WordArith.ofBool_eq_one_iff, decide_eq_true_iff, infinite_word] at h3
    exact real_of_abs h3

open Cert.MainIdeal.Gen in
theorem algebraic : Cert.algebraic_MainIdeal_MainRefIdeal_pre_main_pre := by
  intro m g m' g' hpre hargs
  have hf : ∀ c, MainSpec.Fine (MainSums.logits m c) (MainSums.targets m c) := fun c => decode _ _ _ _ (hpre c)
  refine ⟨fun c => MainSpec.keys (MainSums.logits m c) (MainSums.targets m c),
    fun c => MainSpec.stats (MainSums.boxes m c) (MainSums.truths m c) (MainSums.logits m c) (MainSums.targets m c), ?_, ?_⟩
  · refine (θ_run _ _ _).mono (fun r hr c => ?_) (MainRun.run g (MainSums.kept m hf))
    obtain ⟨e1, e2⟩ := MainFrame.results_of (MainSums.kept m hf) (fun c => MainSpec.keys (MainSums.logits m c) (MainSums.targets m c))
      (fun c => MainSpec.stats (MainSums.boxes m c) (MainSums.truths m c) (MainSums.logits m c) (MainSums.targets m c))
      (fun c t X h => h) (fun c X h => h) hr.1 c
    exact ⟨e1, e2, MainFrame.args_of _ hr.1 c⟩
  · refine (θ_run _ _ _).mono (fun r hr c => ⟨(hr c).1.trans ?_, (hr c).2.1.trans ?_, (hr c).2.2⟩) (Cert.MainRefIdeal.Value.run m' g')
    · rw [(MainReference.run m' c).1, (hargs c).2.2.1, (hargs c).2.2.2]
      exact MainReference.outKeys_eq (hf c)
    · rw [(MainReference.run m' c).2, (hargs c).1, (hargs c).2.1, (hargs c).2.2.1, (hargs c).2.2.2]
      exact MainReference.outStats_eq _ _ (hf c)

end Cert.MainValue

end
-- ==== Proof.SelectRun.lean ====
/- The run of the selection kernel at its result: one grid point, whose body reads the whole of both arrays, narrows
   31 times and stores one number; the host then reshapes the 1x1 array to a scalar. -/
module

public import proofs.«01_k».proof.Proof.Gen.SelectIdeal.Frame
public import Idealize.ShloMosaic.Lib.Pipeline.Value

@[expose] public section

set_option maxRecDepth 16384

noncomputable section

namespace Cert.SelectRun

open Cert.SelectIdeal Cert.SelectIdeal.Gen Idealize.ShloMosaic Idealize.ShloMosaic.TcCoe Idealize.SL.Sem
open Idealize.ShloMosaic.Pipeline (Dat)

variable {F : FTy → Type} [FloatOps F]

/-- One narrowing of every row's interval of keys. -/
def narrow (keys : Vec F S64x24576 .i32) (stats : Vec F S64x8 .f32) (s : IVec S64x1 32 × IVec S64x1 32) :
    IVec S64x1 32 × IVec S64x1 32 :=
  (k0_pay8 keys stats s.1 s.2, k0_pay9 keys stats s.1 s.2)

/-- The intervals after the last narrowing. -/
def bounds (keys : Vec F S64x24576 .i32) (stats : Vec F S64x8 .f32) : IVec S64x1 32 × IVec S64x1 32 :=
  Scf.fold (fun (_ : Fin k0_t1_loop.trips) s => narrow keys stats s) (k0_pay4, k0_pay5)

/-- The stored block as a function of the two arrays. -/
def G (keys : Vec F S64x24576 .i32) (stats : Vec F S64x8 .f32) : Vec F S1x1 .f32 :=
  k0_pay1 (k0_pay10 keys stats (bounds keys stats).1) (k0_pay11 stats)

theorem hz : (![0, 0] : Fin 2 → Nat) = fun _ => 0 := funext fun a => by fin_cases a <;> rfl

theorem out_eq (c : Dev nD) (arg0 : Memref sig .tc .vmem S64x24576 .i32) (h0 : arg0.IsWhole)
    (arg1 : Memref sig .tc .vmem S64x8 .f32) (h1 : arg1.IsWhole) (arg2 : Memref sig .tc .vmem S1x1 .f32)
    (h2 : arg2.IsWhole) (x0 : Vec F S64x24576 .i32) (x1 : Vec F S64x8 .f32) :
    out0_A_2 c arg0 h0 arg1 h1 arg2 h2 x0 x1 = G x0 x1 := by
  unfold out0_A_2
  rw [View.read_writes_junk_eq_canon]
  unfold kernelRun0_A
  dsimp only
  sl_unfold_words
  rw [View.canon_unit_zero hz]
  simp only [View.readAt_eq_ld, h0.read_unread, h1.read_unread, View.ld_unit_zero (S := S64x8) hz,
    View.ld_unit_zero (S := S64x24576) hz]
  rfl

variable (m : (ℓ : Loc nD τ sig) → Buf (Elt F) ℓ) (ρ : Dev nD → PrngReg)

/-- The grid of no axis has one point, and each window there is the whole array. -/
theorem emb0 (t : Fin cfg0.N) (j : S64x24576.Idx) : ((cfg0.win 0).blk t).view.emb j = j := by
  funext a; apply Fin.ext
  match a with
  | ⟨0, _⟩ => show 0 * 64 + 1 * (j 0).val = (j 0).val; omega
  | ⟨1, _⟩ => show 0 * 24576 + 1 * (j 1).val = (j 1).val; omega

theorem emb1 (t : Fin cfg0.N) (j : S64x8.Idx) : ((cfg0.win 1).blk t).view.emb j = j := by
  funext a; apply Fin.ext
  match a with
  | ⟨0, _⟩ => show 0 * 64 + 1 * (j 0).val = (j 0).val; omega
  | ⟨1, _⟩ => show 0 * 8 + 1 * (j 1).val = (j 1).val; omega

theorem emb2 (t : Fin cfg0.N) (j : S1x1.Idx) : ((cfg0.win 2).blk t).view.emb j = j := by
  funext a; apply Fin.ext
  match a with
  | ⟨0, _⟩ => show 0 * 1 + 1 * (j 0).val = (j 0).val; omega
  | ⟨1, _⟩ => show 0 * 1 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_arg1 := by
  funext j; show V m c main_arg1 (((cfg0.win 1).blk t).view.emb j) = V m c main_arg1 j; rw [emb1]

/-- What the one point writes back is the block of `G` of the two arrays. -/
theorem flushed_eq (c : Dev nD) (t : Fin cfg0.N) :
    (dats m 0 c).flushed 2 t = ((cfg0.win 2).blk t).view.read (Elt F) (G (V m c main_arg0) (V m c main_arg1)) := by
  show (cfg0.win 2).cut (grid0.coords t) ((dats m 0 c).after 2 t) = _
  rw [after0_2]
  unfold outsAt0
  rw [out_eq, iblk0_eq, iblk1_eq]
  funext j
  show G _ _ j = G _ _ (((cfg0.win 2).blk t).view.emb j)
  rw [emb2]

/-- The 1x1 array after the region. -/
theorem final (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed_eq m c t)
    (fun i => ⟨(⟨0, by decide⟩ : Fin cfg0.N), flush0_2 _, by
      have h := ((cfg0.win 2).blk (⟨0, by decide⟩ : Fin cfg0.N)).view.emb_mem_set i; rwa [emb2] at h⟩)).trans
    (by rw [V_main_arg0, V_main_arg1])

/-- The host's reshape after the region reads the 1x1 array. -/
theorem tail_eq (c : Dev nD) :
    Pipeline.afterTail₀ cfgs (dats m) 0 (V0 m) [hostOps1] c main_v1
      = shapeCast S_ (G (m ((c : Thread nD τ).loc main_arg0)) (m ((c : Thread nD τ).loc main_arg1))) shapeCasts_S1x1_S_ := by
  unfold Pipeline.afterTail₀
  rw [← final m c, ← Pipeline.withArrays_arr (cfgs 0).spec (by decide) c (V0 m c) (fun w => (dats m 0 c).arrAt w cfg0.N) 2]
  rfl

/-- The run at the result: the scalar is `G` of the arguments, the arguments end unchanged. -/
theorem run : θ_run defs (onTc (τ := τ) (main (F := F))) ⟨m, fun _ => 0, ρ⟩ fun r => ∀ c : Dev nD,
      r.2.mem ((c : Thread nD τ).loc main_v1)
        = shapeCast S_ (G (m ((c : Thread nD τ).loc main_arg0)) (m ((c : Thread nD τ).loc main_arg1))) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun r h c => ⟨((h.1 c).2 main_v1 (by decide)).trans (tail_eq m c),
      (h.2 c).1, (h.2 c).2⟩)
    (θ_run_and (run_main m ρ) (unchanged m ρ))

end Cert.SelectRun

end
-- ==== Proof.TopSum.lean ====
/- The sum of the `M` greatest of finitely many nonnegative extended reals, in two readings: the terms whose
   rank is below `M`; and all the terms above a threshold, with the threshold repeated for the places left over.
   The threshold comes out of a bisection over integer keys that order the terms. -/
module

public import Mathlib.Data.EReal.Operations
public import Mathlib.Data.EReal.Inv
public import Mathlib.Algebra.BigOperators.Group.Finset.Basic
public import Mathlib.Algebra.Order.BigOperators.Group.Finset
public import Idealize.ShloMosaic.PureOps

@[expose] public section

noncomputable section

namespace Cert.TopSum

open Finset

variable {ι : Type} [Fintype ι] [DecidableEq ι]

/-- `rank` numbers the positions from 0 without a gap, a position of greater value before one of lesser value. -/
structure Ranks (f : ι → EReal) (rank : ι → ℕ) : Prop where
  inj : Function.Injective rank
  lt : ∀ i, rank i < Fintype.card ι
  anti : ∀ i j, rank i < rank j → f j ≤ f i

variable {f : ι → EReal} {rank : ι → ℕ}

/-- The positions of rank below `M`. -/
def top (rank : ι → ℕ) (M : ℕ) : Finset ι := univ.filter fun i => rank i < M

theorem mem_top {M : ℕ} {i : ι} : i ∈ top rank M ↔ rank i < M := by simp [top]

theorem card_top (h : Ranks f rank) {M : ℕ} (hM : M ≤ Fintype.card ι) : (top rank M).card = M := by
  have him : univ.image rank = range (Fintype.card ι) := by
    refine Finset.eq_of_subset_of_card_le (fun k hk => ?_) ?_
    · obtain ⟨i, -, rfl⟩ := Finset.mem_image.mp hk
      exact Finset.mem_range.mpr (h.lt i)
    · rw [Finset.card_image_of_injective _ h.inj, Finset.card_univ, Finset.card_range]
  have e : (top rank M).image rank = range M := by
    ext k
    simp only [Finset.mem_image, mem_top, Finset.mem_range]
    constructor
    · rintro ⟨i, hi, rfl⟩; exact hi
    · intro hk
      have : k ∈ univ.image rank := by rw [him]; exact Finset.mem_range.mpr (by omega)
      obtain ⟨i, -, rfl⟩ := Finset.mem_image.mp this
      exact ⟨i, hk, rfl⟩
  rw [← Finset.card_image_of_injective (top rank M) h.inj, e, Finset.card_range]

/-- At most `M` positions lie above `θ`: all of them have rank below `M`. -/
theorem above_subset_top (h : Ranks f rank) {M : ℕ} {θ : EReal} (hc : (univ.filter fun i => θ < f i).card ≤ M) :
    (univ.filter fun i => θ < f i) ⊆ top rank M := by
  intro i hi
  by_contra hn
  rw [mem_top, not_lt] at hn
  have hM : M ≤ Fintype.card ι := by have := h.lt i; omega
  have hsub : top rank M ⊆ (univ.filter fun i => θ < f i).erase i := by
    intro j hj
    rw [mem_top] at hj
    refine Finset.mem_erase.mpr ⟨fun e => by subst e; omega, ?_⟩
    have := h.anti j i (by omega)
    simp only [Finset.mem_filter, Finset.mem_univ, true_and] at hi ⊢
    exact lt_of_lt_of_le hi this
  have h1 := Finset.card_le_card hsub
  rw [card_top h hM, Finset.card_erase_of_mem hi] at h1
  have : 0 < (univ.filter fun i => θ < f i).card := Finset.card_pos.mpr ⟨i, hi⟩
  omega

/-- At least `M` positions reach `θ`: every position of rank below `M` does. -/
theorem top_subset_reach (h : Ranks f rank) {M : ℕ} {θ : EReal} (hc : M ≤ (univ.filter fun i => θ ≤ f i).card) :
    top rank M ⊆ univ.filter fun i => θ ≤ f i := by
  intro j hj
  by_contra hn
  simp only [Finset.mem_filter, Finset.mem_univ, true_and, not_le] at hn
  rw [mem_top] at hj
  have hM : M ≤ Fintype.card ι := hc.trans (Finset.card_le_univ _)
  have hsub : (univ.filter fun i => θ ≤ f i) ⊆ (top rank M).erase j := by
    intro i hi
    simp only [Finset.mem_filter, Finset.mem_univ, true_and] at hi
    refine Finset.mem_erase.mpr ⟨fun e => by subst e; exact absurd hi (not_le.mpr hn), ?_⟩
    rw [mem_top]
    by_contra hlt
    exact absurd (lt_of_le_of_lt (hi.trans (h.anti j i (by omega))) hn) (lt_irrefl _)
  have h1 := Finset.card_le_card hsub
  rw [Finset.card_erase_of_mem (mem_top.mpr hj), card_top h hM] at h1
  omega

/-- The sum of the `M` greatest through a threshold that at most `M` terms exceed and at least `M` reach. -/
theorem sum_top_eq_threshold (h : Ranks f rank) {M : ℕ} {θ : EReal}
    (h1 : (univ.filter fun i => θ < f i).card ≤ M) (h2 : M ≤ (univ.filter fun i => θ ≤ f i).card) :
    ∑ i ∈ top rank M, f i
      = (∑ i ∈ univ.filter (fun i => θ < f i), f i)
        + (((M : ℝ) - ((univ.filter fun i => θ < f i).card : ℝ) : ℝ) : EReal) * θ := by
  have hs := above_subset_top h h1
  have ht := top_subset_reach h h2
  rw [← Finset.sum_sdiff hs, add_comm]
  congr 1
  have hc : (top rank M \ univ.filter fun i => θ < f i).card = M - (univ.filter fun i => θ < f i).card := by
    rw [Finset.card_sdiff_of_subset hs, card_top h (h2.trans (Finset.card_le_univ _))]
  have hv : ∀ i ∈ top rank M \ univ.filter (fun i => θ < f i), f i = θ := by
    intro i hi
    rw [Finset.mem_sdiff] at hi
    have a := ht hi.1
    have b := hi.2
    simp only [Finset.mem_filter, Finset.mem_univ, true_and, not_lt] at a b
    exact le_antisymm b a
  rw [Finset.sum_congr rfl hv, Finset.sum_const, hc, EReal.nsmul_eq_mul, ← Nat.cast_sub h1]
  rfl

/-- As many places as there are positive terms, or more: the sum of the greatest is the sum of all. -/
theorem sum_top_eq_sum (h : Ranks f rank) (h0 : ∀ i, 0 ≤ f i) {M : ℕ}
    (h1 : (univ.filter fun i => 0 < f i).card ≤ M) : ∑ i ∈ top rank M, f i = ∑ i, f i := by
  refine Finset.sum_subset (Finset.subset_univ _) fun i _ hi => ?_
  by_contra hne
  exact hi (above_subset_top h h1 (by simpa using lt_of_le_of_ne (h0 i) (Ne.symm hne)))

/-- A position of the greatest value `⊤` and at least one place: the sum is `⊤`. -/
theorem sum_top_eq_top (h : Ranks f rank) (h0 : ∀ i, 0 ≤ f i) {M : ℕ} (hM : 0 < M) {i : ι} (hi : f i = ⊤) :
    ∑ i ∈ top rank M, f i = ⊤ := by
  have hn : 1 ≤ Fintype.card ι := Fintype.card_pos_iff.mpr ⟨i⟩
  have hc : (top rank 1).card = 1 := card_top h hn
  obtain ⟨j, hj⟩ := Finset.card_pos.mp (by omega : 0 < (top rank 1).card)
  rw [mem_top] at hj
  have hfj : f j = ⊤ := by
    by_cases e : j = i
    · rw [e, hi]
    · have : rank j < rank i := by
        rcases Nat.lt_trichotomy (rank j) (rank i) with a | a | a
        · exact a
        · exact absurd (h.inj a) e
        · omega
      exact top_le_iff.mp (hi ▸ h.anti j i this)
  refine top_le_iff.mp ?_
  rw [← hfj]
  exact Finset.single_le_sum (f := f) (fun i _ => h0 i) (mem_top.mpr (by omega))

section Keys

variable {κ : ι → ℤ} {φ : ℤ → EReal} {B : ℤ}

/-- Keys of at most `B`, read by a strictly increasing `φ` from `0` at `0` to `⊤` at `B`; a negative key stands for
    no candidate and is read as `0`. -/
structure Keyed (κ : ι → ℤ) (φ : ℤ → EReal) (B : ℤ) : Prop where
  pos : 0 < B
  zero : φ 0 = 0
  top : φ B = ⊤
  mono : ∀ a b, 0 ≤ a → a < b → b ≤ B → φ a < φ b
  le : ∀ i, κ i ≤ B

/-- The value that a key stands for. -/
def val (κ : ι → ℤ) (φ : ℤ → EReal) (i : ι) : EReal := if 0 ≤ κ i then φ (κ i) else 0

theorem Keyed.nonneg (h : Keyed κ φ B) {a : ℤ} (h0 : 0 ≤ a) (hB : a ≤ B) : 0 ≤ φ a := by
  rcases h0.eq_or_lt with rfl | h0
  · exact h.zero.ge
  · exact h.zero ▸ (h.mono 0 a le_rfl h0 hB).le

theorem Keyed.val_nonneg (h : Keyed κ φ B) (i : ι) : 0 ≤ val κ φ i := by
  unfold val; split
  · exact h.nonneg ‹_› (h.le i)
  · exact le_rfl

/-- A value exceeds the threshold's exactly if the key does. -/
theorem Keyed.lt_val_iff (h : Keyed κ φ B) {lo : ℤ} (h0 : 0 ≤ lo) (hB : lo < B) (i : ι) :
    φ lo < val κ φ i ↔ lo < κ i := by
  unfold val; split
  · rename_i hk
    rcases lt_trichotomy lo (κ i) with a | a | a
    · exact iff_of_true (h.mono _ _ h0 a (h.le i)) a
    · rw [a]; exact iff_of_false (lt_irrefl _) (lt_irrefl _)
    · exact iff_of_false (h.mono _ _ hk a hB.le).le.not_gt a.le.not_gt
  · exact iff_of_false (h.nonneg h0 hB.le).not_gt (by omega)

theorem Keyed.le_val_iff (h : Keyed κ φ B) {lo : ℤ} (h0 : 0 < lo) (hB : lo < B) (i : ι) :
    φ lo ≤ val κ φ i ↔ lo ≤ κ i := by
  have hp : 0 < φ lo := h.zero ▸ h.mono 0 lo le_rfl h0 hB.le
  unfold val; split
  · rename_i hk
    rcases lt_trichotomy lo (κ i) with a | a | a
    · exact iff_of_true (h.mono _ _ h0.le a (h.le i)).le a.le
    · rw [a]; exact iff_of_true le_rfl le_rfl
    · exact iff_of_false (h.mono _ _ hk a hB.le).not_ge a.not_ge
  · exact iff_of_false hp.not_ge (by omega)

/-- The number of keys that reach `t`. -/
def count (κ : ι → ℤ) (t : ℤ) : ℕ := (univ.filter fun i => t ≤ κ i).card

theorem Keyed.sum_above (h : Keyed κ φ B) {lo : ℤ} (h0 : 0 ≤ lo) (hB : lo < B) :
    (∑ i, if lo < κ i then φ (κ i) else 0) = ∑ i ∈ univ.filter (fun i => φ lo < val κ φ i), val κ φ i := by
  rw [Finset.sum_filter]
  refine Finset.sum_congr rfl fun i _ => ?_
  by_cases hk : lo < κ i
  · rw [if_pos hk, if_pos ((h.lt_val_iff h0 hB i).mpr hk)]; unfold val; rw [if_pos (by omega)]
  · rw [if_neg hk, if_neg (fun e => hk ((h.lt_val_iff h0 hB i).mp e))]

theorem Keyed.card_above (h : Keyed κ φ B) {lo : ℤ} (h0 : 0 ≤ lo) (hB : lo < B) :
    (univ.filter fun i => φ lo < val κ φ i).card = count κ (lo + 1) := by
  unfold count; congr 1; ext i
  simp only [Finset.mem_filter, Finset.mem_univ, true_and]
  rw [h.lt_val_iff h0 hB i]; omega

theorem Keyed.card_reach (h : Keyed κ φ B) {lo : ℤ} (h0 : 0 < lo) (hB : lo < B) :
    (univ.filter fun i => φ lo ≤ val κ φ i).card = count κ lo := by
  unfold count; congr 1; ext i
  simp only [Finset.mem_filter, Finset.mem_univ, true_and]
  exact h.le_val_iff h0 hB i

theorem count_anti {a b : ℤ} (hab : a ≤ b) : count κ b ≤ count κ a := by
  refine Finset.card_le_card fun i hi => ?_
  simp only [Finset.mem_filter, Finset.mem_univ, true_and] at hi ⊢
  omega

theorem Keyed.card_pos (h : Keyed κ φ B) : (univ.filter fun i => 0 < val κ φ i).card = count κ 1 := by
  have := h.card_above (lo := 0) le_rfl h.pos
  rwa [h.zero] at this

theorem sum_rank_lt (M : ℤ) (g : ι → EReal) :
    (∑ i, if (rank i : ℤ) < M then g i else 0) = ∑ i ∈ top rank M.toNat, g i := by
  rw [top, Finset.sum_filter]
  refine Finset.sum_congr rfl fun i _ => ?_
  by_cases hr : (rank i : ℤ) < M
  · rw [if_pos hr, if_pos (by omega)]
  · rw [if_neg hr, if_neg (by omega)]

/-- THE SUM OF THE GREATEST BY A THRESHOLD KEY. `M` places are asked for and `K` is `M` or, if less, a bound `C` on the number of
    candidates. `lo` is a key that `K` keys reach (or 0) and that fewer than `K` exceed (or the last key before `B`). -/
theorem Keyed.sum_threshold (h : Keyed κ φ B) (hr : Ranks (val κ φ) rank) {M C K lo : ℤ} (hC : (count κ 0 : ℤ) ≤ C)
    (hK : K = min M C) (hpos : 0 < K) (h0 : 0 ≤ lo) (hB : lo < B)
    (hlo : lo = 0 ∨ K ≤ count κ lo) (hhi : lo + 1 = B ∨ (count κ (lo + 1) : ℤ) < K) :
    (∑ i, if lo < κ i then φ (κ i) else 0) + (((K : ℝ) - (count κ (lo + 1) : ℝ) : ℝ) : EReal) * φ lo
      = ∑ i, if (rank i : ℤ) < M then val κ φ i else 0 := by
  have hKM : K ≤ M := hK ▸ min_le_left _ _
  rw [sum_rank_lt, h.sum_above h0 hB]
  by_cases hn : (count κ (lo + 1) : ℤ) < K
  · rcases h0.eq_or_lt with rfl | h0'
    · rw [h.zero, mul_zero, add_zero, sum_top_eq_sum hr h.val_nonneg (by rw [h.card_pos]; simp at hn; omega)]
      refine Finset.sum_subset (Finset.subset_univ _) fun i _ hi => ?_
      simp only [Finset.mem_filter, Finset.mem_univ, true_and, not_lt] at hi
      exact le_antisymm hi (h.val_nonneg i)
    · have hreach : K ≤ count κ lo := hlo.resolve_left (by omega)
      have key := sum_top_eq_threshold hr (M := K.toNat) (θ := φ lo)
        (by rw [h.card_above h0 hB]; omega) (by rw [h.card_reach h0' hB]; omega)
      rw [h.card_above h0 hB] at key
      have eK : ((K.toNat : ℕ) : ℝ) = (K : ℝ) := by
        have : ((K.toNat : ℕ) : ℤ) = K := Int.toNat_of_nonneg (by omega)
        exact_mod_cast this
      rw [eK] at key
      rw [← key]
      rcases le_total M C with hMC | hMC
      · rw [min_eq_left hMC] at hK; rw [hK]
      · rw [min_eq_right hMC] at hK
        have hp : count κ 1 ≤ count κ 0 := count_anti (by omega)
        rw [sum_top_eq_sum hr h.val_nonneg (by rw [h.card_pos]; omega),
          sum_top_eq_sum hr h.val_nonneg (by rw [h.card_pos]; omega)]
  · have hlast : lo + 1 = B := hhi.resolve_right hn
    have hc : 0 < (univ.filter fun i => lo + 1 ≤ κ i).card := by
      change 0 < count κ (lo + 1); omega
    obtain ⟨i, hi⟩ := Finset.card_pos.mp hc
    simp only [Finset.mem_filter, Finset.mem_univ, true_and] at hi
    have hik : κ i = B := by have := h.le i; omega
    have hv : val κ φ i = ⊤ := by unfold val; rw [if_pos (by have := h.pos; omega), hik, h.top]
    rw [sum_top_eq_top hr h.val_nonneg (by omega) hv]
    have hs : ∑ i ∈ univ.filter (fun i => φ lo < val κ φ i), val κ φ i = ⊤ := by
      refine top_le_iff.mp ?_
      rw [← hv]
      exact Finset.single_le_sum (f := val κ φ) (fun i _ => h.val_nonneg i)
        (by simp only [Finset.mem_filter, Finset.mem_univ, true_and]; rw [h.lt_val_iff h0 hB i]; omega)
    have hfin : φ lo ≠ ⊤ := ((h.mono lo B h0 hB le_rfl).trans_le le_top).ne
    have hbot : φ lo ≠ ⊥ := (lt_of_lt_of_le EReal.bot_lt_zero (h.nonneg h0 hB.le)).ne'
    rw [hs]
    lift φ lo to ℝ using ⟨hfin, hbot⟩ with x
    rw [← EReal.coe_mul]
    exact EReal.top_add_coe _

/-- No place to fill: the sum of the greatest is 0. -/
theorem Keyed.sum_none (h : Keyed κ φ B) {M C K : ℤ} (hC : (count κ 0 : ℤ) ≤ C) (hK : K = min M C) (hpos : ¬0 < K) :
    (∑ i, if (rank i : ℤ) < M then val κ φ i else 0) = 0 := by
  refine Finset.sum_eq_zero fun i _ => ?_
  by_cases hr : (rank i : ℤ) < M
  · rw [if_pos hr]
    have hCle : C ≤ 0 := by
      rcases le_total M C with a | a
      · rw [min_eq_left a] at hK; omega
      · rw [min_eq_right a] at hK; omega
    have hc : count κ 0 = 0 := by omega
    unfold val
    by_cases hk : 0 ≤ κ i
    · exact absurd (Finset.card_eq_zero.mp hc) (Finset.ne_empty_of_mem (by simpa using hk : i ∈ _))
    · rw [if_neg hk]
  · rw [if_neg hr]

end Keys

end Cert.TopSum

end
-- ==== Proof.Bisect.lean ====
/-
  The bisection of the selection kernel, row by row over the integers: from the bounds 0 and the bits of +∞, each of
  the 31 steps halves the interval and keeps the lower bound reached by at least `K` keys and the upper bound reached
  by fewer, unless a bound was never moved; after 31 steps the bounds are adjacent.
-/
module

public import proofs.«01_k».proof.Proof.SelectRun
public import proofs.«01_k».proof.Proof.RowSum
public import proofs.«01_k».proof.Proof.TopSum
public import Idealize.ShloMosaic.Lib.Exec.Context
public import Idealize.ShloMosaic.Lib.StableHlo.Predicate
public import Idealize.ShloMosaic.Lib.WordCmp

@[expose] public section

set_option maxRecDepth 16384

noncomputable section

namespace Cert.Bisect

open Idealize.ShloMosaic Cert.SelectIdeal Cert.SelectIdeal.Gen Cert.RowSum Cert.TopSum

/-- The keys of a row, as integers. -/
def row (keys : Vec Ideal S64x24576 .i32) (r : Fin 64) (i : Fin 24576) : ℤ := (keys (ix2 r i)).toInt

variable (keys : Vec Ideal S64x24576 .i32) (stats : Vec Ideal S64x8 .f32)

theorem toInt_nat (a : BitVec 32) (h : 0 ≤ a.toInt) : a.toInt = a.toNat ∧ a.toNat < 2 ^ 31 := by
  rw [BitVec.toInt_eq_toNat_cond] at h ⊢
  have := a.isLt
  split at h <;> rename_i hc
  · rw [if_pos hc]; exact ⟨rfl, by omega⟩
  · omega

theorem toInt_of_nat (a : BitVec 32) (h : a.toNat < 2 ^ 31) : a.toInt = a.toNat :=
  BitVec.toInt_eq_toNat_of_lt (by omega)

/-- The midpoint of two words is the midpoint of their values. -/
theorem mid_toInt (lo hi : IVec S64x1 32) (j : S64x1.Idx) (h0 : 0 ≤ (lo j).toInt) (hlt : (lo j).toInt < (hi j).toInt) :
    (k0_pay6 lo hi j).toInt = (lo j).toInt + ((hi j).toInt - (lo j).toInt) / 2 := by
  obtain ⟨hl, hl'⟩ := toInt_nat (lo j) h0
  obtain ⟨hh, hh'⟩ := toInt_nat (hi j) (by omega)
  rw [hl, hh] at hlt
  have hdn : (hi j - lo j).toNat = (hi j).toNat - (lo j).toNat := by
    rw [BitVec.toNat_sub_of_le (BitVec.le_def.2 (by omega))]
  have hd := toInt_of_nat (hi j - lo j) (by omega)
  have hsgt : IntOp.cmpi .sgt (hi j - lo j) 0#32 = 1#1 := IntOp.cmpi_sgt.2 (by rw [hd, hdn]; simp; omega)
  have hslt : IntOp.cmpi .slt (hi j - lo j) 0#32 = 0#1 := by
    have h : ¬ IntOp.cmpi .slt (hi j - lo j) 0#32 = 1#1 := by
      rw [IntOp.cmpi_slt, hd, hdn]; simp
    revert h; generalize IntOp.cmpi .slt (hi j - lo j) 0#32 = b; revert b; decide
  have hmid : k0_pay6 lo hi j = lo j + IntOp.divsi .vector (hi j - lo j) 2#32 := by
    show lo j + (if IntOp.andi (IntOp.cmpi .ne (IntOp.subi ((IntOp.cmpi .sgt (hi j - lo j) 0#32).zeroExtend 32)
      ((IntOp.cmpi .slt (hi j - lo j) 0#32).zeroExtend 32)) 1#32) (IntOp.cmpi .ne (IntOp.remsi .vector (hi j - lo j) 2#32) 0#32) = 1#1
        then IntOp.divsi .vector (hi j - lo j) 2#32 - 1#32 else IntOp.divsi .vector (hi j - lo j) 2#32) = _
    rw [hsgt, hslt]
    rw [if_neg]
    generalize IntOp.cmpi .ne (IntOp.remsi .vector (hi j - lo j) 2#32) 0#32 = b
    revert b; decide
  have hq := StableHlo.Predicate.divsi_two .vector (hi j - lo j) (by omega)
  rw [hdn] at hq
  rw [hmid, hl, hh, toInt_of_nat _ (by rw [BitVec.toNat_add, hq]; omega), BitVec.toNat_add, hq]
  omega

/-- The number of a row's keys at or above a word, as the kernel counts it. -/
theorem count_ge (b : IVec S64x1 32) (hw : 1 < 32) (h : S64x1.Broadcasts S64x24576) (hr : S64x24576.Reduces [1] S64)
    (hacc : (0#32 : BitVec 32) = IKind.add.neutral) (r : Fin 64) :
    (multiReductionI .add [1] S64 (extui 32 (cmpi .sge keys (broadcastTo S64x24576 b h)) hw) 0#32 hr hacc (ix1 r)).toInt
      = count (row keys r) (b (ix2 r 0)).toInt := by
  refine (count_row (m := 64) (n := 24576) _ hw hr hacc (by decide) r).trans ?_
  unfold TopSum.count
  refine congrArg (fun s : Finset (Fin 24576) => ((s.card : ℕ) : ℤ)) (Finset.filter_congr fun k _ => ?_)
  show IntOp.cmpi .sge (keys (ix2 r k)) (broadcastTo S64x24576 b h (ix2 r k)) = 1#1 ↔ _
  rw [broadcastTo_apply b h (ix2 r k) (ix2 r 0) (by intro a; match a with | ⟨0, _⟩ => rfl | ⟨1, _⟩ => rfl), IntOp.cmpi_sge]
  rfl

/-- and the number strictly above. -/
theorem count_gt (b : IVec S64x1 32) (hw : 1 < 32) (h : S64x1.Broadcasts S64x24576) (hr : S64x24576.Reduces [1] S64)
    (hacc : (0#32 : BitVec 32) = IKind.add.neutral) (r : Fin 64) :
    (multiReductionI .add [1] S64 (extui 32 (cmpi .sgt keys (broadcastTo S64x24576 b h)) hw) 0#32 hr hacc (ix1 r)).toInt
      = count (row keys r) ((b (ix2 r 0)).toInt + 1) := by
  refine (count_row (m := 64) (n := 24576) _ hw hr hacc (by decide) r).trans ?_
  unfold TopSum.count
  refine congrArg (fun s : Finset (Fin 24576) => ((s.card : ℕ) : ℤ)) (Finset.filter_congr fun k _ => ?_)
  show IntOp.cmpi .sgt (keys (ix2 r k)) (broadcastTo S64x24576 b h (ix2 r k)) = 1#1 ↔ _
  rw [broadcastTo_apply b h (ix2 r k) (ix2 r 0) (by intro a; match a with | ⟨0, _⟩ => rfl | ⟨1, _⟩ => rfl), IntOp.cmpi_sgt]
  exact Int.lt_iff_add_one_le

set_option backward.isDefEq.respectTransparency false in
/-- The test of a step. -/
theorem test_iff (lo hi : IVec S64x1 32) (r : Fin 64) :
    k0_pay7 keys stats lo hi (ix2 r 0) = 1#1
      ↔ (k0_pay3 stats (ix2 r 0)).toInt ≤ count (row keys r) (k0_pay6 lo hi (ix2 r 0)).toInt := by
  unfold k0_pay7
  dsimp only
  rw [cmpi_at, IntOp.cmpi_sge, col_apply]
  rw [count_ge keys (k0_pay6 lo hi) natLt_1_32 broadcasts_S64x1_S64x24576 reduces_S64x24576_S64 rfl r]

/-- What holds of the bounds of row `r` after `n` steps. -/
structure Inv (r : Fin 64) (n : ℕ) (s : IVec S64x1 32 × IVec S64x1 32) : Prop where
  nonneg : 0 ≤ (s.1 (ix2 r 0)).toInt
  apart : 2 ^ (30 - n) ≤ (s.2 (ix2 r 0)).toInt - (s.1 (ix2 r 0)).toInt
  le : (s.2 (ix2 r 0)).toInt ≤ 0x7F800000
  width : (s.2 (ix2 r 0)).toInt - (s.1 (ix2 r 0)).toInt ≤ 2 ^ (31 - n)
  low : (s.1 (ix2 r 0)).toInt = 0 ∨ (k0_pay3 stats (ix2 r 0)).toInt ≤ count (row keys r) (s.1 (ix2 r 0)).toInt
  high : (s.2 (ix2 r 0)).toInt = 0x7F800000 ∨ (count (row keys r) (s.2 (ix2 r 0)).toInt : ℤ) < (k0_pay3 stats (ix2 r 0)).toInt

theorem inv_start (r : Fin 64) : Inv keys stats r 0 (k0_pay4, k0_pay5) where
  nonneg := by show 0 ≤ (0#32 : BitVec 32).toInt; decide
  apart := by show (2 : ℤ) ^ 30 ≤ 2139095040 - 0; norm_num
  le := by show (2139095040#32 : BitVec 32).toInt ≤ 0x7F800000; decide
  width := by show (2139095040 : ℤ) - 0 ≤ 2 ^ 31; norm_num
  low := .inl rfl
  high := .inl rfl

theorem halves (n : ℕ) (d : ℤ) (hn : n < 30) (h : d ≤ 2 ^ (31 - n)) (h' : 2 ^ (30 - n) ≤ d) :
    d - d / 2 ≤ 2 ^ (31 - (n + 1)) ∧ d / 2 ≤ 2 ^ (31 - (n + 1)) ∧ 2 ^ (30 - (n + 1)) ≤ d / 2 ∧ 0 < d := by
  have he : (2 : ℤ) ^ (31 - n) = 2 * 2 ^ (31 - (n + 1)) := by
    rw [show 31 - n = (31 - (n + 1)) + 1 by omega, pow_succ]; ring
  have he' : (2 : ℤ) ^ (30 - n) = 2 * 2 ^ (30 - (n + 1)) := by
    rw [show 30 - n = (30 - (n + 1)) + 1 by omega, pow_succ]; ring
  have hp : (0 : ℤ) < 2 ^ (30 - (n + 1)) := by positivity
  rw [he] at h; rw [he'] at h'
  refine ⟨?_, ?_, ?_, ?_⟩ <;> omega

theorem narrow_fst (s : IVec S64x1 32 × IVec S64x1 32) (j : S64x1.Idx) :
    (SelectRun.narrow keys stats s).1 j = if k0_pay7 keys stats s.1 s.2 j = 1#1 then k0_pay6 s.1 s.2 j else s.1 j := by
  unfold SelectRun.narrow k0_pay8
  dsimp only
  exact select_at (k0_pay7 keys stats s.1 s.2) (k0_pay6 s.1 s.2) s.1 j

theorem narrow_snd (s : IVec S64x1 32 × IVec S64x1 32) (j : S64x1.Idx) :
    (SelectRun.narrow keys stats s).2 j = if k0_pay7 keys stats s.1 s.2 j = 1#1 then s.2 j else k0_pay6 s.1 s.2 j := by
  unfold SelectRun.narrow k0_pay9
  dsimp only
  exact select_at (k0_pay7 keys stats s.1 s.2) s.2 (k0_pay6 s.1 s.2) j

/-- A step before the last moves one of the bounds to the midpoint, which lies strictly between them. -/
theorem inv_step (r : Fin 64) (n : ℕ) (hn : n < 30) (s : IVec S64x1 32 × IVec S64x1 32) (h : Inv keys stats r n s) :
    Inv keys stats r (n + 1) (SelectRun.narrow keys stats s) := by
  obtain ⟨h0, hap, hle, hw, hlow, hhigh⟩ := h
  obtain ⟨hw1, hw2, hw3, hw4⟩ := halves n _ hn hw hap
  have hm := mid_toInt s.1 s.2 (ix2 r 0) h0 (by omega)
  have ht := test_iff keys stats s.1 s.2 r
  have e1 := narrow_fst keys stats s (ix2 r 0)
  have e2 := narrow_snd keys stats s (ix2 r 0)
  by_cases hc : k0_pay7 keys stats s.1 s.2 (ix2 r 0) = 1#1
  · rw [if_pos hc] at e1 e2
    exact ⟨by rw [e1, hm]; omega, by rw [e1, e2, hm]; omega, by rw [e2]; exact hle,
      by rw [e1, e2, hm]; omega, by rw [e1]; exact .inr (ht.1 hc), by rw [e2]; exact hhigh⟩
  · rw [if_neg hc] at e1 e2
    have hlt' : (TopSum.count (row keys r) (k0_pay6 s.1 s.2 (ix2 r 0)).toInt : ℤ) < (k0_pay3 stats (ix2 r 0)).toInt := by
      by_contra hcc; exact hc (ht.2 (by omega))
    exact ⟨by rw [e1]; exact h0, by rw [e1, e2, hm]; omega, by rw [e2, hm]; omega,
      by rw [e1, e2, hm]; omega, by rw [e1]; exact hlow, by rw [e2]; exact .inr hlt'⟩

/-- The lower bound `lo` that the last step leaves: no more than `K` keys are above it, and it is 0 or at least `K`
    keys reach it. -/
theorem last_step (r : Fin 64) (s : IVec S64x1 32 × IVec S64x1 32) (h : Inv keys stats r 30 s) (lo : ℤ)
    (hlo : lo = ((SelectRun.narrow keys stats s).1 (ix2 r 0)).toInt) :
    0 ≤ lo ∧ lo < 0x7F800000
      ∧ (lo = 0 ∨ (k0_pay3 stats (ix2 r 0)).toInt ≤ TopSum.count (row keys r) lo)
      ∧ (lo + 1 = 0x7F800000 ∨ (TopSum.count (row keys r) (lo + 1) : ℤ) < (k0_pay3 stats (ix2 r 0)).toInt) := by
  obtain ⟨h0, hap, hle, hw, hlow, hhigh⟩ := h
  norm_num at hap hw
  have hm := mid_toInt s.1 s.2 (ix2 r 0) h0 (by omega)
  have ht := test_iff keys stats s.1 s.2 r
  rw [narrow_fst keys stats s (ix2 r 0)] at hlo
  by_cases hc : k0_pay7 keys stats s.1 s.2 (ix2 r 0) = 1#1
  · rw [if_pos hc] at hlo
    have hl := ht.1 hc
    rw [← hlo] at hl hm
    refine ⟨by omega, by omega, .inr hl, ?_⟩
    have : lo + 1 = (s.2 (ix2 r 0)).toInt := by omega
    rw [this]; exact hhigh
  · rw [if_neg hc] at hlo
    have hlt' : (TopSum.count (row keys r) (k0_pay6 s.1 s.2 (ix2 r 0)).toInt : ℤ) < (k0_pay3 stats (ix2 r 0)).toInt := by
      by_contra hcc; exact hc (ht.2 (by omega))
    rw [← hlo] at hm hlow
    refine ⟨by omega, by omega, hlow, .inr (lt_of_le_of_lt ?_ hlt')⟩
    exact_mod_cast count_anti (by omega)

/-- The lower bound the loop leaves. -/
theorem bounds_spec (r : Fin 64) (lo : ℤ) (hlo : lo = ((SelectRun.bounds keys stats).1 (ix2 r 0)).toInt) :
    0 ≤ lo ∧ lo < 0x7F800000
      ∧ (lo = 0 ∨ (k0_pay3 stats (ix2 r 0)).toInt ≤ TopSum.count (row keys r) lo)
      ∧ (lo + 1 = 0x7F800000 ∨ (TopSum.count (row keys r) (lo + 1) : ℤ) < (k0_pay3 stats (ix2 r 0)).toInt) := by
  have key : ∀ n ≤ 30, Inv keys stats r n ((SelectRun.narrow keys stats)^[n] (k0_pay4, k0_pay5)) := by
    intro n
    induction n with
    | zero => intro _; exact inv_start keys stats r
    | succ n ih =>
      intro hn
      rw [Function.iterate_succ_apply']
      exact inv_step keys stats r n (by omega) _ (ih (by omega))
  refine last_step keys stats r _ (key 30 le_rfl) lo ?_
  rw [hlo, ← Function.iterate_succ_apply' (SelectRun.narrow keys stats)]
  unfold SelectRun.bounds
  rw [Scf.fold_eq, List.foldl_const, List.length_finRange]
  rfl

end Cert.Bisect

end
-- ==== Proof.KeyOrder.lean ====
/-
  The 32-bit patterns from 0 up to that of +∞, read as numbers, increase strictly: so keys that are such patterns, or
  negative, are ordered as the losses they spell.
-/
module

public import proofs.«01_k».proof.Proof.TopSum
public import Idealize.ShloMosaic.Lib.TotalOrder
public import Idealize.ShloMosaic.PureOps.Ideal.Laws

@[expose] public section

noncomputable section

namespace Cert.KeyOrder

open Idealize.ShloMosaic Cert.TopSum

/-- The number a pattern, given as an integer, spells. -/
def spell (t : ℤ) : EReal := Ideal.ofBits .f32 (BitVec.ofInt 32 t)

theorem spell_toInt (b : BitVec 32) : spell b.toInt = Ideal.ofBits .f32 b := by
  unfold spell; rw [BitVec.ofInt_toInt]

theorem toNat_ofInt (t : ℤ) (h0 : 0 ≤ t) (h : t ≤ 0x7F800000) : ((BitVec.ofInt 32 t).toNat : ℤ) = t := by
  rw [BitVec.toNat_ofInt]; omega

theorem not_nan (b : BitVec (8 + 23 + 1)) (h : b.toNat ≤ 0x7F800000) : ¬ TotalOrder.IsNaN 8 23 b := by
  rintro ⟨h1, h2⟩
  rw [TotalOrder.expo_eq] at h1
  rw [TotalOrder.frac_eq] at h2
  omega

theorem spell_mono (a b : ℤ) (h0 : 0 ≤ a) (hab : a < b) (hb : b ≤ 0x7F800000) : spell a < spell b := by
  have ha' := toNat_ofInt a h0 (by omega)
  have hb' := toNat_ofInt b (by omega) hb
  have hma : (BitVec.ofInt 32 a).msb = false := BitVec.msb_eq_false_iff_two_mul_lt.2 (by omega)
  have hmb : (BitVec.ofInt 32 b).msb = false := BitVec.msb_eq_false_iff_two_mul_lt.2 (by omega)
  refine (TotalOrder.lt_iff (e := 8) (m := 23) (a := BitVec.ofInt 32 a) (b := BitVec.ofInt 32 b) (not_nan _ (by omega)) (not_nan _ (by omega)) ?_).1 ?_
  · rintro ⟨-, -, h⟩; exact h (hma.trans hmb.symm)
  · have hka := TotalOrder.toNat_totalOrderKey (e := 8) (m := 23) (BitVec.ofInt 32 a)
    have hkb := TotalOrder.toNat_totalOrderKey (e := 8) (m := 23) (BitVec.ofInt 32 b)
    rw [hma] at hka
    rw [hmb] at hkb
    exact lt_of_eq_of_lt hka (lt_of_lt_of_eq (by simp; omega) hkb.symm)

theorem keyed {ι : Type} [Fintype ι] [DecidableEq ι] (κ : ι → ℤ) (h : ∀ i, κ i ≤ 0x7F800000) : Keyed κ spell 0x7F800000 where
  pos := by norm_num
  zero := by unfold spell; exact Ideal.ofBits_zero_f32
  top := by
    unfold spell
    rw [show BitVec.ofInt 32 0x7F800000 = 0x7F800000#32 from rfl]
    simp [Ideal.ofBits, Ideal.ieee]
  mono := spell_mono
  le := h

end Cert.KeyOrder

end
-- ==== Proof.Whole.lean ====
/-
  Rounding an extended real to a 32-bit word, as an integer: it respects the order, so it commutes with the smaller of
  two values, and it leaves integers in range alone.
-/
module

public import Idealize.ShloMosaic.PureOps.Ideal.Laws
public import Idealize.ShloMosaic.Lib.Pointwise.Index
public import Idealize.ShloMosaic.Lib.Pipeline.Value

@[expose] public section

noncomputable section

namespace Cert.Whole

open Idealize.ShloMosaic

/-- The integer a value rounds to. -/
def whole (x : EReal) : ℤ := (Ideal.fptosi 32 x).toInt

theorem clamped_mem (x : EReal) : -2 ^ 31 ≤ Ideal.toIntClamped (-(2 ^ 31 : ℕ)) ((2 ^ 31 : ℕ) - 1) x
    ∧ Ideal.toIntClamped (-(2 ^ 31 : ℕ)) ((2 ^ 31 : ℕ) - 1) x ≤ 2 ^ 31 - 1 := by
  induction x with
  | bot => simp
  | top => simp
  | coe r => rw [Ideal.toIntClamped_coe]; omega

theorem whole_eq (x : EReal) : whole x = Ideal.toIntClamped (-(2 ^ 31 : ℕ)) ((2 ^ 31 : ℕ) - 1) x := by
  have h := clamped_mem x
  unfold whole Ideal.fptosi
  exact BitVec.toInt_ofInt_eq_self (by norm_num) (by push_cast at h ⊢; norm_num; omega) (by push_cast at h ⊢; norm_num; omega)

theorem whole_mono : Monotone whole := by
  intro x y hxy
  rw [whole_eq, whole_eq]
  have hx := clamped_mem x
  have hy := clamped_mem y
  induction x with
  | bot => simp only [Ideal.toIntClamped_bot]; push_cast at hy ⊢; omega
  | top => rw [top_le_iff.1 hxy]
  | coe r =>
    induction y with
    | bot => exact absurd hxy (by simp)
    | top => simp only [Ideal.toIntClamped_top]; push_cast at hx ⊢; omega
    | coe s =>
      have hrs : r ≤ s := EReal.coe_le_coe_iff.1 hxy
      rw [Ideal.toIntClamped_coe, Ideal.toIntClamped_coe]
      refine max_le_max le_rfl (min_le_min le_rfl ?_)
      split <;> split
      · exact Int.floor_le_floor hrs
      · rename_i h1 h2; exact absurd (h1.trans hrs) h2
      · rename_i h1 h2
        exact (Int.ceil_le.2 (by push_cast; exact (not_le.1 h1).le)).trans (Int.floor_nonneg.2 h2)
      · exact Int.ceil_le_ceil hrs

theorem whole_min (x y : EReal) : whole (min x y) = min (whole x) (whole y) := whole_mono.map_min

theorem whole_int (n : ℤ) (h : -2 ^ 31 ≤ n) (h' : n ≤ 2 ^ 31 - 1) : whole (((n : ℝ)) : EReal) = n := by
  rw [whole_eq, Ideal.toIntClamped_coe]
  simp only [Int.floor_intCast, Int.ceil_intCast, ite_self]
  push_cast
  omega

/-- A column's elements summed in the layout with a leading unit axis. -/
theorem sum_column {M : Type} [AddCommMonoid M] {m : ℕ} (x : (⟨2, ![m, 1]⟩ : Shape).Idx → M)
    (h : (⟨2, ![m, 1]⟩ : Shape).ShapeCasts ⟨3, ![1, m, 1]⟩) :
    ∑ i, shapeCast ⟨3, ![1, m, 1]⟩ x h i = ∑ r : Fin m, x (ix2 r 0) := by
  rw [sum_idx3, Fin.sum_univ_one]
  refine Finset.sum_congr rfl fun r _ => ?_
  rw [Fin.sum_univ_one]
  exact shapeCast_apply x h _ (ix2 r 0) (by
    rw [Shape.rowMajor_val_two, Shape.rowMajor_val_three]; show r.val * 1 + 0 = (0 * m + r.val) * 1 + 0; omega)

/-- A column's elements summed in the vector's layout. -/
theorem sum_vector {M : Type} [AddCommMonoid M] {m : ℕ} (x : (⟨2, ![m, 1]⟩ : Shape).Idx → M)
    (h : (⟨2, ![m, 1]⟩ : Shape).ShapeCasts ⟨1, ![m]⟩) :
    ∑ i, shapeCast ⟨1, ![m]⟩ x h i = ∑ r : Fin m, x (ix2 r 0) := by
  rw [sum_idx1]
  refine Finset.sum_congr rfl fun r _ => ?_
  exact shapeCast_apply x h _ (ix2 r 0) (by
    rw [Shape.rowMajor_val_two, Shape.rowMajor_val_one]; show r.val * 1 + 0 = r.val; omega)

end Cert.Whole

end
-- ==== Proof.SelectKernel.lean ====
/-
  What the selection kernel's last payloads compute over the extended reals: the sum over the rows of the row's mined
  total and its two losses, divided by the sum of the counts.
-/
module

public import proofs.«01_k».proof.Proof.Bisect
public import proofs.«01_k».proof.Proof.KeyOrder
public import proofs.«01_k».proof.Proof.Whole

@[expose] public section

set_option maxRecDepth 16384

noncomputable section

namespace Cert.SelectKernel

open Idealize.ShloMosaic Cert.SelectIdeal Cert.SelectIdeal.Gen Cert.RowSum Cert.TopSum Cert.Bisect Cert.KeyOrder Cert.Whole

variable (keys : Vec Ideal S64x24576 .i32) (stats : Vec Ideal S64x8 .f32)

/-- The number of anchors a row mines: three times its positives, at most the anchors that are not positive. -/
def mined (stats : Vec Ideal S64x8 .f32) (r : Fin 64) : ℤ :=
  whole (min ((3 : ℝ) * (stats (ix2 r 0) : EReal)) (((24564 : ℝ) : EReal) - stats (ix2 r 0)))

theorem three : Ideal.ofBits .f32 0x40400000#32 = ((3 : ℝ) : EReal) := by
  simp [Ideal.ofBits, Ideal.ieee]; rw [← EReal.coe_mul]; norm_num

theorem anchors : Ideal.ofBits .f32 0x46BFE800#32 = ((24564 : ℝ) : EReal) := by
  simp [Ideal.ofBits, Ideal.ieee]; rw [← EReal.coe_mul]; norm_num

theorem pay3_toInt (r : Fin 64) : (k0_pay3 stats (ix2 r 0)).toInt = mined stats r := by
  have h : k0_pay3 stats (ix2 r 0) = Ideal.fptosi 32 (min (Ideal.ofBits .f32 0x40400000#32 * (k0_pay2 stats (ix2 r 0) : EReal))
      (Ideal.ofBits .f32 0x46BFE800#32 - (k0_pay2 stats (ix2 r 0) : EReal))) := rfl
  have h2 : k0_pay2 stats (ix2 r 0) = stats (ix2 r 0) := by
    unfold k0_pay2
    exact congrArg stats (funext fun a => by match a with | ⟨0, _⟩ => exact Fin.ext (Nat.zero_add _) | ⟨1, _⟩ => rfl)
  rw [h, h2, three, anchors]; rfl

/-- One entry of a column of sums of every row, the layouts in between undone. -/
theorem total (x : FVec Ideal S64x1 .f32) (hc : S1x64x1.Reduces [1, 2] S1) (h1 : S64x1.ShapeCasts S1x64x1) (hφ : FKind.Formats .f32)
    (hacc : (0#32 : BitVec 32) = FKind.add.neutral .f32 hφ) (j : S1.Idx) :
    multiReduction .add [1, 2] S1 (shapeCast S1x64x1 x h1) 0#32 hc hφ hacc j = ∑ r : Fin 64, (x (ix2 r 0) : EReal) := by
  rw [Ideal.multiReduction_add_total _ _ hc (by decide)]
  exact sum_column (M := EReal) x h1

/-- The same total taken out of its one-entry array. -/
theorem total_at (x : FVec Ideal S64x1 .f32) (hc : S1x64x1.Reduces [1, 2] S1) (h1 : S64x1.ShapeCasts S1x64x1) (hφ : FKind.Formats .f32)
    (hacc : (0#32 : BitVec 32) = FKind.add.neutral .f32 hφ) (h2 : S1.ShapeCasts S1x1x1) (hp : ∀ a, (![0, 0, 0] : Fin 3 → ℕ) a < S1x1x1.size a) :
    extractAt ![0, 0, 0] (shapeCast S1x1x1 (multiReduction .add [1, 2] S1 (shapeCast S1x64x1 x h1) 0#32 hc hφ hacc) h2) hp
      = ∑ r : Fin 64, (x (ix2 r 0) : EReal) :=
  total x hc h1 hφ hacc _

/-- The payload of a row. -/
def entry (lo : IVec S64x1 32) (r : Fin 64) : EReal :=
  ((if 0 < mined stats r then
      (∑ i, if (lo (ix2 r 0)).toInt < row keys r i then spell (row keys r i) else 0)
        + (((mined stats r : ℝ) - (count (row keys r) ((lo (ix2 r 0)).toInt + 1) : ℝ) : ℝ) : EReal) * spell (lo (ix2 r 0)).toInt
    else 0) + stats (ix2 r 1)) + stats (ix2 r 2)

theorem slice_apply (o : Fin 8) (h : S64x8.Slices ![0, o.val] S64x1) (r : Fin 64) :
    extractStridedSlice S64x1 ![0, o.val] stats h (ix2 r 0) = stats (ix2 r o) :=
  congrArg stats (funext fun a => by
    match a with | ⟨0, _⟩ => exact Fin.ext (Nat.zero_add _) | ⟨1, _⟩ => exact Fin.ext (Nat.add_zero _))

theorem above (lo : IVec S64x1 32) (h : S64x1.Broadcasts S64x24576) (r : Fin 64) (i : Fin 24576) :
    cmpi .sgt keys (broadcastTo S64x24576 lo h) (ix2 r i) = 1#1 ↔ (lo (ix2 r 0)).toInt < row keys r i := by
  have hb : broadcastTo S64x24576 lo h (ix2 r i) = lo (ix2 r 0) :=
    broadcastTo_apply lo h _ _ fun a => by match a with | ⟨0, _⟩ => rfl | ⟨1, _⟩ => rfl
  rw [cmpi_at, hb]
  exact IntOp.cmpi_sgt

theorem mined_le (r : Fin 64) : mined stats r ≤ 2 ^ 31 - 1 := by
  unfold mined; rw [whole_eq]; exact (clamped_mem _).2

theorem sub_toInt (a b : BitVec 32) (ha : 0 < a.toInt) (hb : 0 ≤ b.toInt) : (a - b).toInt = a.toInt - b.toInt := by
  have h1 := BitVec.toInt_lt (x := a)
  have h2 := BitVec.toInt_lt (x := b)
  rw [BitVec.toInt_sub, Int.bmod_eq_of_le (by omega) (by omega)]

set_option backward.isDefEq.respectTransparency false in
/-- The kernel's numerator. -/
theorem numerator (lo : IVec S64x1 32) : k0_pay10 keys stats lo = ∑ r : Fin 64, entry keys stats lo r := by
  unfold k0_pay10
  dsimp only
  rw [total_at]
  refine Finset.sum_congr rfl fun r _ => ?_
  unfold entry
  refine congrArg₂ (fun a b : EReal => a + b) (congrArg₂ (fun a b : EReal => a + b) ?_ (slice_apply stats 1 _ r)) (slice_apply stats 2 _ r)
  rw [select_at, cmpi_at]
  have hp : (IntOp.cmpi .sgt (k0_pay3 stats (ix2 r 0)) (broadcast S64x1 0#32 (ix2 r 0)) = 1#1) ↔ 0 < mined stats r := by
    rw [IntOp.cmpi_sgt, pay3_toInt]; rfl
  by_cases h : 0 < mined stats r
  · refine (if_pos (hp.2 h)).trans (Eq.trans ?_ (if_pos h).symm)
    refine congrArg₂ (fun a b : EReal => a + b) ?_ (congrArg₂ (fun a b : EReal => a * b) ?_ (spell_toInt _).symm)
    · rw [col_apply, sum_row]
      refine Finset.sum_congr rfl fun i _ => ?_
      rw [select_at]
      exact if_congr (above keys lo _ r i) (spell_toInt _).symm Ideal.ofBits_zero_f32
    · have hn := count_gt keys lo natLt_1_32 broadcasts_S64x1_S64x24576 reduces_S64x24576_S64 rfl r
      have hs := sub_toInt (k0_pay3 stats (ix2 r 0)) (multiReductionI .add [1] S64 (extui 32 (cmpi .sgt keys (broadcastTo S64x24576 lo broadcasts_S64x1_S64x24576)) natLt_1_32) 0#32 reduces_S64x24576_S64 rfl (ix1 r))
        (by rw [pay3_toInt]; exact h) (by rw [hn]; exact Int.natCast_nonneg _)
      rw [hn, pay3_toInt] at hs
      refine (congrArg (fun z : BitVec 32 => (((z.toInt : ℝ)) : EReal)) (congrArg (fun z => k0_pay3 stats (ix2 r 0) - z) (col_apply _ shapeCasts_S64_S64x1 r))).trans ?_
      rw [hs]; push_cast; rfl
  · refine (if_neg (fun e => h (hp.1 e))).trans (Eq.trans ?_ (if_neg h).symm)
    exact Ideal.ofBits_zero_f32

set_option backward.isDefEq.respectTransparency false in
theorem denominator (j : S1.Idx) : k0_pay11 stats j = ∑ r : Fin 64, (stats (ix2 r 0) : EReal) := by
  unfold k0_pay11 k0_pay2
  dsimp only
  rw [total]
  exact Finset.sum_congr rfl fun r _ => slice_apply stats 0 _ r

end Cert.SelectKernel

end
-- ==== Proof.Rank.lean ====
/-
  The position of an element in a descending sort, found by sorting twice: the second stable sort, of the first one's
  positions, inverts its permutation.
-/
module

public import proofs.«01_k».proof.Proof.TopSum
public import proofs.«01_k».proof.Proof.RowSum
public import proofs.«01_k».proof.SelectRefIdeal
public import Idealize.ShloMosaic.Lib.SortFacts
public import Mathlib.Order.Fin.Basic

@[expose] public section

set_option maxRecDepth 16384

noncomputable section

namespace Cert.Rank

open Idealize.ShloMosaic Cert.TopSum Cert.RowSum

section General

variable {n : ℕ}

/-- The permutation that sorts `v` stably, smallest first. -/
def order {α : Type} [LinearOrder α] (v : Fin n → α) : Fin n → Fin n := sortedFrom fun k k' => decide (v k < v k')

theorem order_injective {α : Type} [LinearOrder α] (v : Fin n → α) : Function.Injective (order v) := sortedFrom_injective _

theorem order_mono {α : Type} [LinearOrder α] (v : Fin n → α) (i j : Fin n) (h : i < j) : v (order v i) ≤ v (order v j) := by
  have h' := sortedFrom_noInversion (fun k k' => decide (v k < v k')) (fun k k' => decide (v k < v k'))
    (fun a b hab => by simp only [decide_eq_true_eq, decide_eq_false_iff_not, not_lt] at hab ⊢; exact hab.le)
    (fun _ _ h => h)
    (fun a b c hab hbc => by simp only [decide_eq_false_iff_not, not_lt] at hab hbc ⊢; exact hbc.trans hab) i j h
  exact not_lt.1 (of_decide_eq_false h')

/-- Sorting the permutation inverts it. -/
theorem order_order (π : Fin n → Fin n) (hπ : Function.Injective π) (i : Fin n) : π (order π i) = i := by
  have hm : StrictMono fun i => π (order π i) := fun i j h =>
    lt_of_le_of_ne (order_mono π i j h) fun e => h.ne (order_injective π (hπ e))
  have hs : Function.Surjective fun i => π (order π i) := Finite.surjective_of_injective hm.injective
  exact congrArg (fun e : Fin n ≃o Fin n => e i) (Subsingleton.elim (hm.orderIsoOfSurjective _ hs) (OrderIso.refl _))

/-- The rank two sorts of the negated values find. -/
theorem ranks (v : Fin n → EReal) : Ranks v fun i => (order (order fun k => -v k) i).val where
  inj := fun i j h => order_injective _ (Fin.ext h)
  lt := fun i => by rw [Fintype.card_fin]; exact (order _ i).isLt
  anti := fun i j h => by
    have h' := order_mono (fun k => -v k) _ _ (Fin.lt_def.2 h)
    have hπ := order_injective fun k => -v k
    rw [order_order _ hπ, order_order _ hπ] at h'
    exact EReal.neg_le_neg_iff.1 h'

end General

open Cert.SelectRefIdeal

/-- Over the extended reals the float comparison of the sort is `<`. -/
theorem float_before (l r : EReal × BitVec 32) :
    (comparator_f32_i32_d1 (F := Ideal) l r == 1#1) = decide (l.1 < r.1) := by
  have hs : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits .f32 0x00000000#32)) (FloatOps.ofBits .f32 0x00000000#32) a) = a := by
    intro a
    have h1 : FloatOps.cmpf (F := Ideal) (φ := .f32) .une a a = 0#1 := by simp [Ideal.cmpf_def, Ideal.cmp]
    rw [h1]
    unfold Scalar.select
    rw [if_neg (by decide)]
    split
    · rename_i h
      simp only [Ideal.cmpf_def, Ideal.cmp] at h
      by_cases he : a = FloatOps.ofBits (F := Ideal) .f32 0x00000000#32
      · exact he.symm
      · rw [decide_eq_false he] at h; exact absurd h (by decide)
    · rfl
  have h : comparator_f32_i32_d1 (F := Ideal) l r = BitVec.ofBool (decide (l.1 < r.1)) := by
    unfold comparator_f32_i32_d1
    dsimp only
    rw [hs, hs]
    rfl
  rw [h]
  cases decide (l.1 < r.1) <;> rfl

theorem word_before (l r : BitVec 32 × BitVec 32) :
    (comparator_i32_i32_d1 l r == 1#1) = decide (l.1.toInt < r.1.toInt) := by
  have h : comparator_i32_i32_d1 l r = BitVec.ofBool (decide (l.1.toInt < r.1.toInt)) := rfl
  rw [h]
  cases decide (l.1.toInt < r.1.toInt) <;> rfl

theorem along_row {m n : ℕ} (r : Fin m) (i k : Fin n) :
    Shape.Idx.along (s := ⟨2, ![m, n]⟩) (ix2 r i) (1 : Fin 2) k = ix2 r k := by
  funext a
  match a with
  | ⟨0, _⟩ => rfl
  | ⟨1, _⟩ => rfl

/-- A sort along the rows, read at a row's position: the second operand at the position the row's sort found. -/
theorem sort_row {m n : ℕ} {α β : Type} (cmp : α × β → α × β → BitVec 1) (x : (⟨2, ![m, n]⟩ : Shape).Idx → α)
    (y : (⟨2, ![m, n]⟩ : Shape).Idx → β) (r : Fin m) (i : Fin n) :
    (Host.sort2 ⟨2, ![m, n]⟩ 1 cmp x y).2 (ix2 r i)
      = y (ix2 r (sortedFrom (fun k k' => cmp (x (ix2 r k), y (ix2 r k)) (x (ix2 r k'), y (ix2 r k')) == 1#1) i)) := by
  unfold Host.sort2
  rw [dif_pos (show 1 < 2 by decide)]
  refine (congrArg y (along_row r i _)).trans (congrArg (fun p => y (ix2 r (sortedFrom p i))) (funext fun k => funext fun k' => ?_))
  exact congrArg₂ (fun a b => cmp (x a, y a) (x b, y b) == 1#1) (along_row r i k) (along_row r i k')

/-- The first sort's positions. -/
theorem sort_float (x : FVec Ideal S64x24576 .f32) (r : Fin 64) (i : Fin 24576) :
    (Host.sort2 S64x24576 1 (comparator_f32_i32_d1 (F := Ideal)) x (iotaInDim S64x24576 32 1)).2 (ix2 r i)
      = BitVec.ofNat 32 (order (fun k => (x (ix2 r k) : EReal)) i).val := by
  refine (sort_row (m := 64) (n := 24576) _ x (iotaInDim S64x24576 32 1) r i).trans ?_
  refine congrArg (fun p => BitVec.ofNat 32 (sortedFrom p i).val) (funext fun k => funext fun k' => ?_)
  exact float_before _ _

theorem toInt_small (a : Fin 24576) : (BitVec.ofNat 32 a.val).toInt = a.val := by
  have := a.isLt
  rw [BitVec.toInt_eq_toNat_of_lt (by rw [BitVec.toNat_ofNat]; omega), BitVec.toNat_ofNat]
  omega

/-- The second sort's positions: the first's permutation inverted. -/
theorem sort_word (x : IVec S64x24576 32) (r : Fin 64) (π : Fin 24576 → Fin 24576)
    (hx : ∀ k, x (ix2 r k) = BitVec.ofNat 32 (π k).val) (i : Fin 24576) :
    (Host.sort2 S64x24576 1 comparator_i32_i32_d1 x (iotaInDim S64x24576 32 1)).2 (ix2 r i)
      = BitVec.ofNat 32 (order π i).val := by
  refine (sort_row (m := 64) (n := 24576) _ x (iotaInDim S64x24576 32 1) r i).trans ?_
  refine congrArg (fun p => BitVec.ofNat 32 (sortedFrom p i).val) (funext fun k => funext fun k' => ?_)
  refine (word_before _ _).trans ?_
  dsimp only
  rw [hx, hx, toInt_small, toInt_small]
  exact decide_eq_decide.2 (by rw [Fin.lt_def]; exact Int.ofNat_lt)

end Cert.Rank

end
-- ==== Proof.SelectReference.lean ====
/-
  What the reference of the selection computes over the extended reals: the same quotient, the numerator's mined part
  summed over the anchors whose rank two sorts put below three times the positives.
-/
module

public import proofs.«01_k».proof.Proof.Rank
public import proofs.«01_k».proof.Proof.KeyOrder
public import proofs.«01_k».proof.Proof.Whole
public import proofs.«01_k».proof.Proof.Gen.SelectRefIdeal.Run
public import Idealize.ShloMosaic.Lib.StableHlo.Predicate

@[expose] public section

set_option maxRecDepth 16384

noncomputable section

namespace Cert.SelectReference

open Idealize.ShloMosaic Cert.SelectRefIdeal Cert.SelectRefIdeal.Gen Cert.RowSum Cert.TopSum Cert.KeyOrder Cert.Whole Cert.Rank

variable (keys : IVec S64x24576 32) (stats : FVec Ideal S64x8 .f32)

def key (r : Fin 64) (i : Fin 24576) : ℤ := (keys (ix2 r i)).toInt

/-- The losses, zero where a key is no loss. -/
def losses : FVec Ideal S64x24576 .f32 :=
  select (cmpi .sge keys (broadcastInDim S64x24576 ![] bcast_S_S64x24576 (constantI S_ 32 0#32))) (bitcastToFloat (F := Ideal) .f32 keys)
    (broadcastInDim S64x24576 ![] bcast_S_S64x24576 (id (constant S_ .f32 0x00000000#32)))

/-- The positions the second sort finds. -/
def ranked : IVec S64x24576 32 :=
  (Host.sort2 S64x24576 1 comparator_i32_i32_d1 ((Host.sort2 S64x24576 1 (comparator_f32_i32_d1 (F := Ideal)) (Host.negf (losses keys)) (iotaInDim S64x24576 32 1)).2) (iotaInDim S64x24576 32 1)).2

/-- Three times the positives, as words. -/
def wanted : IVec S64 32 :=
  fptosi 32 (mulf (broadcastInDim S64 ![] bcast_S_S64 (constant S_ .f32 0x40400000#32)) (shapeCast _ (extractStridedSlice S64x1 ![0, 0] stats slices_S64x8_S64x1_0_0) shapeCasts_S64x1_S64))

/-- The losses of the anchors ranked below that. -/
def picked : FVec Ideal S64x24576 .f32 :=
  select (cmpi .slt (ranked keys) (broadcastInDim S64x24576 ![0, 1] bcast_S64x1_S64x24576_0_1 (broadcastInDim S64x1 ![0] bcast_S64_S64x1_0 (wanted stats))))
    (losses keys) (broadcastInDim S64x24576 ![] bcast_S_S64x24576 (id (constant S_ .f32 0x00000000#32)))

theorem losses_apply (r : Fin 64) (i : Fin 24576) : losses keys (ix2 r i) = val (key keys r) spell i := by
  unfold losses val
  rw [select_at, cmpi_at]
  refine if_congr ?_ (spell_toInt _).symm Ideal.ofBits_zero_f32
  exact IntOp.cmpi_sge

/-- The rank of an anchor. -/
def rank (r : Fin 64) (i : Fin 24576) : ℕ := (order (order fun k => -val (key keys r) spell k) i).val

theorem ranks_rank (r : Fin 64) : Ranks (val (key keys r) spell) (rank keys r) := ranks _

theorem ranked_apply (r : Fin 64) (i : Fin 24576) : (ranked keys (ix2 r i)).toInt = rank keys r i := by
  unfold ranked rank
  rw [sort_word _ r (order fun k => -val (key keys r) spell k) (fun k => ?_) i, toInt_small]
  rw [sort_float]
  refine congrArg (fun v : Fin 24576 → EReal => BitVec.ofNat 32 (order v k).val) (funext fun k' => ?_)
  exact congrArg (fun z : EReal => -z) (losses_apply keys r k')

def want (stats : FVec Ideal S64x8 .f32) (r : Fin 64) : ℤ := whole ((3 : ℝ) * (stats (ix2 r 0) : EReal))

theorem three : Ideal.ofBits .f32 0x40400000#32 = ((3 : ℝ) : EReal) := by
  simp [Ideal.ofBits, Ideal.ieee]; rw [← EReal.coe_mul]; norm_num

theorem column_apply (o : Fin 8) (h : S64x8.Slices ![0, o.val] S64x1) (r : Fin 64) :
    extractStridedSlice S64x1 ![0, o.val] stats h (ix2 r 0) = stats (ix2 r o) :=
  congrArg stats (funext fun a => by
    match a with | ⟨0, _⟩ => exact Fin.ext (Nat.zero_add _) | ⟨1, _⟩ => exact Fin.ext (Nat.add_zero _))

theorem wanted_apply (r : Fin 64) : (wanted stats (ix1 r)).toInt = want stats r := by
  unfold want whole
  rw [← three]
  refine congrArg (fun z : EReal => (Ideal.fptosi 32 (Ideal.ofBits .f32 0x40400000#32 * z)).toInt) ?_
  exact (uncol_apply _ _ r).trans (column_apply stats 0 _ r)

theorem picked_apply (r : Fin 64) (i : Fin 24576) :
    picked keys stats (ix2 r i) = if (rank keys r i : ℤ) < want stats r then val (key keys r) spell i else 0 := by
  unfold picked
  rw [select_at, cmpi_at]
  refine if_congr ?_ (losses_apply keys r i) Ideal.ofBits_zero_f32
  rw [IntOp.cmpi_slt, ranked_apply]
  have hb : broadcastInDim S64x24576 ![0, 1] bcast_S64x1_S64x24576_0_1 (broadcastInDim S64x1 ![0] bcast_S64_S64x1_0 (wanted stats)) (ix2 r i) = wanted stats (ix1 r) :=
    congrArg (wanted stats) (funext fun a => by match a with | ⟨0, _⟩ => rfl)
  rw [hb, wanted_apply]

theorem column_total (o : Fin 8) (h : S64x8.Slices ![0, o.val] S64x1) (hc : S64x1.ShapeCasts S64) (h' : S64.ReducesTo [0] S_)
    (hu : 0 < S_.numel) (j : S_.Idx) :
    Host.reduceAdd (shapeCast S64 (extractStridedSlice S64x1 ![0, o.val] stats h) hc) (constant S_ .f32 0x00000000#32) h' hu j
      = ∑ r : Fin 64, (stats (ix2 r o) : EReal) := by
  refine (Ideal.hostReduceAdd_total h' (fun b => b.elim0) _ _ j).trans ?_
  refine (congrArg₂ (fun a b : EReal => a + b) Ideal.ofBits_zero_f32 (sum_vector (M := EReal) _ hc)).trans ?_
  rw [zero_add]
  exact Finset.sum_congr rfl fun r _ => column_apply stats o h r

theorem picked_total (h' : S64x24576.ReducesTo [0, 1] S_) (hu : 0 < S_.numel) (j : S_.Idx) :
    Host.reduceAdd (picked keys stats) (constant S_ .f32 0x00000000#32) h' hu j
      = ∑ r : Fin 64, ∑ i : Fin 24576, if (rank keys r i : ℤ) < want stats r then val (key keys r) spell i else 0 := by
  refine (Ideal.hostReduceAdd_total h' (fun b => b.elim0) _ _ j).trans ?_
  refine (congrArg₂ (fun a b : EReal => a + b) Ideal.ofBits_zero_f32 (sum_idx2 (M := EReal) (n0 := 64) (n1 := 24576) (picked keys stats))).trans ?_
  rw [zero_add]
  exact Finset.sum_congr rfl fun r _ => Finset.sum_congr rfl fun i _ => picked_apply keys stats r i

/-- The reference's result. -/
def result : FVec Ideal S_ .f32 :=
  Host.divf (addf (Host.reduceAdd (shapeCast _ (extractStridedSlice S64x1 ![0, 2] stats slices_S64x8_S64x1_0_2) shapeCasts_S64x1_S64) (constant S_ .f32 0x00000000#32) reducesTo_S64_S_d0 h_S_)
      (addf (Host.reduceAdd (shapeCast _ (extractStridedSlice S64x1 ![0, 1] stats slices_S64x8_S64x1_0_1) shapeCasts_S64x1_S64) (constant S_ .f32 0x00000000#32) reducesTo_S64_S_d0 h_S_)
        (Host.reduceAdd (picked keys stats) (constant S_ .f32 0x00000000#32) reducesTo_S64x24576_S_d0_1 h_S_)))
    (Host.reduceAdd (shapeCast _ (extractStridedSlice S64x1 ![0, 0] stats slices_S64x8_S64x1_0_0) shapeCasts_S64x1_S64) (constant S_ .f32 0x00000000#32) reducesTo_S64_S_d0 h_S_)

theorem result_apply (j : S_.Idx) : result keys stats j
    = Ideal.div ((∑ r : Fin 64, (stats (ix2 r 2) : EReal)) + ((∑ r : Fin 64, (stats (ix2 r 1) : EReal))
        + ∑ r : Fin 64, ∑ i : Fin 24576, if (rank keys r i : ℤ) < want stats r then val (key keys r) spell i else 0))
      (∑ r : Fin 64, (stats (ix2 r 0) : EReal)) := by
  unfold result
  exact congrArg₂ Ideal.div (congrArg₂ (fun a b : EReal => a + b) (column_total stats 2 _ _ _ _ j)
    (congrArg₂ (fun a b : EReal => a + b) (column_total stats 1 _ _ _ _ j) (picked_total keys stats _ _ j))) (column_total stats 0 _ _ _ _ j)

end Cert.SelectReference

end
-- ==== Proof.SelectValue.lean ====
/-
  The selection kernel and its reference agree under the precondition: row by row, bisection and two sorts mine the same
  total.
-/
module

public import proofs.«01_k».proof.Defs
public import proofs.«01_k».proof.Proof.SelectKernel
public import proofs.«01_k».proof.Proof.SelectReference
public import proofs.«01_k».proof.Proof.Gen.Pre_select_pre
public import Idealize.ShloMosaic.Lib.ReduceAll

@[expose] public section

set_option maxRecDepth 16384

noncomputable section

namespace Cert.SelectValue

open Idealize.ShloMosaic Idealize.SL.Sem Cert.SelectIdeal Cert.RowSum Cert.TopSum Cert.Bisect Cert.KeyOrder Cert.Whole Cert.SelectKernel Cert.SelectReference

variable (keys : IVec S64x24576 32) (stats : FVec Ideal S64x8 .f32)

theorem and_one {a b : BitVec 1} (h : a &&& b = 1#1) : a = 1#1 ∧ b = 1#1 := by revert a b; decide

/-- The anchors whose key is not negative, counted as the precondition counts them. -/
def keysOver : IVec S64 32 :=
  Host.reduce IntOp.addi (extui 32 (cmpi .sge keys (broadcastInDim S64x24576 ![] Cert.Pre_select_pre.Facts.bcast_S_S64x24576 (constantI ⟨0, ![]⟩ 32 0#32))) Cert.Pre_select_pre.Facts.natLt_1_32)
    (constantI ⟨0, ![]⟩ 32 0#32) Cert.Pre_select_pre.Facts.reducesTo_S64x24576_S64_d1 Cert.Pre_select_pre.Facts.h_S_

theorem keysOver_apply (r : Fin 64) : (keysOver keys (ix1 r)).toInt = TopSum.count (row keys r) 0 := by
  unfold keysOver
  rw [host_count_row _ _ _ Cert.SelectIdeal.Gen.reduces_S64x24576_S64 _ _ rfl (by norm_num)]
  unfold TopSum.count
  exact congrArg (fun n : ℕ => (n : ℤ)) (congrArg Finset.card (Finset.filter_congr fun i _ => IntOp.cmpi_sge))

theorem count_le (r : Fin 64) : TopSum.count (row keys r) 0 ≤ 24576 :=
  (Finset.card_le_univ _).trans (by simp)

/-- What the precondition says. -/
theorem decode (h : Cert.Pre_select_pre.fn (F := Ideal) keys stats = fun _ => 1#1) :
    (∀ r i, row keys r i ≤ 0x7F800000)
      ∧ ∀ r, (stats (ix2 r 0) : EReal) ≤ (((24564 - (TopSum.count (row keys r) 0 : ℤ) : ℤ) : ℝ) : EReal) := by
  have h0 := congrFun h (fun b => b.elim0)
  unfold Cert.Pre_select_pre.fn at h0
  dsimp only at h0
  obtain ⟨h1, h2⟩ := and_one h0
  refine ⟨fun r i => ?_, fun r => ?_⟩
  · exact IntOp.cmpi_sle.1 (Host.reduce_andi_all _ _ _ _ _ h1 (ix2 r i))
  · have h3 := Host.reduce_andi_all _ _ _ _ _ h2 (ix1 r)
    have h4 : ((shapeCast S64 (extractStridedSlice S64x1 ![0, 0] stats Cert.Pre_select_pre.Facts.slices_S64x8_S64x1_0_0) Cert.Pre_select_pre.Facts.shapeCasts_S64x1_S64 (ix1 r) : EReal))
        ≤ ((((24564#32 - keysOver keys (ix1 r)).toInt : ℝ)) : EReal) := by
      have h5 : BitVec.ofBool (decide (((shapeCast S64 (extractStridedSlice S64x1 ![0, 0] stats Cert.Pre_select_pre.Facts.slices_S64x8_S64x1_0_0) Cert.Pre_select_pre.Facts.shapeCasts_S64x1_S64 (ix1 r) : EReal))
        ≤ ((((24564#32 - keysOver keys (ix1 r)).toInt : ℝ)) : EReal))) = 1#1 := h3
      by_contra hc
      rw [decide_eq_false hc] at h5
      exact absurd h5 (by decide)
    rw [uncol_apply, sub_toInt _ _ (by decide) (by rw [keysOver_apply]; exact Int.natCast_nonneg _), keysOver_apply] at h4
    exact (column_apply stats 0 _ r).ge.trans h4

/-- A row mines the same total either way. -/
theorem mined_row (r : Fin 64) (h : ∀ i, row keys r i ≤ 0x7F800000)
    (hn : (stats (ix2 r 0) : EReal) ≤ (((24564 - (TopSum.count (row keys r) 0 : ℤ) : ℤ) : ℝ) : EReal)) :
    entry keys stats (SelectRun.bounds (F := Ideal) keys stats).1 r
      = ((∑ i, if (rank keys r i : ℤ) < want stats r then val (row keys r) spell i else 0) + stats (ix2 r 1)) + stats (ix2 r 2) := by
  have hk := keyed (row keys r) h
  have hC : (TopSum.count (row keys r) 0 : ℤ) ≤ whole (((24564 : ℝ) : EReal) - stats (ix2 r 0)) := by
    have hc := count_le keys r
    rw [← whole_int (TopSum.count (row keys r) 0 : ℤ) (by omega) (by omega)]
    refine whole_mono ?_
    refine le_trans (le_of_eq ?_) (EReal.sub_le_sub le_rfl hn)
    rw [← EReal.coe_sub]
    exact congrArg _ (by push_cast; ring)
  have hK : mined stats r = min (want stats r) (whole (((24564 : ℝ) : EReal) - stats (ix2 r 0))) := whole_min _ _
  unfold entry
  refine congrArg (fun z : EReal => (z + stats (ix2 r 1)) + stats (ix2 r 2)) ?_
  split
  · rename_i hpos
    obtain ⟨b0, b1, b2, b3⟩ := bounds_spec keys stats r _ rfl
    rw [pay3_toInt] at b2 b3
    exact hk.sum_threshold (ranks_rank keys r) hC hK hpos b0 b1 b2 b3
  · rename_i hpos
    exact (hk.sum_none hC hK hpos).symm

theorem quotient (x : EReal) (y : FVec Ideal S1 .f32) (h : S1x1.ShapeCasts S_) (j : S_.Idx) (d : EReal) (hd : ∀ j, y j = d) :
    shapeCast S_ (Cert.SelectIdeal.Gen.k0_pay1 (F := Ideal) x y) h j = Ideal.div x d :=
  congrArg (Ideal.div x) (hd _)

/-- The two results. -/
theorem equal (h : Cert.Pre_select_pre.fn (F := Ideal) keys stats = fun _ => 1#1) :
    shapeCast S_ (SelectRun.G (F := Ideal) keys stats) Cert.SelectIdeal.Gen.shapeCasts_S1x1_S_ = result keys stats := by
  obtain ⟨h1, h2⟩ := decode keys stats h
  funext j
  rw [result_apply]
  unfold SelectRun.G
  rw [quotient _ _ _ j _ (denominator stats), numerator]
  refine congrArg (fun z : EReal => Ideal.div z _) ?_
  rw [Finset.sum_congr rfl fun r _ => mined_row keys stats r (h1 r) (h2 r), Finset.sum_add_distrib, Finset.sum_add_distrib, add_comm,
    add_comm (∑ r, ∑ i, _)]
  rfl

open Cert.SelectIdeal.Gen in
theorem algebraic : Cert.algebraic_SelectIdeal_SelectRefIdeal_pre_select_pre := by
  intro m g m' g' hpre hargs
  refine ⟨fun c => shapeCast S_ (SelectRun.G _ _) Cert.SelectIdeal.Gen.shapeCasts_S1x1_S_, SelectRun.run m g, ?_⟩
  refine (θ_run _ _ _).mono (fun r hr c => ⟨(hr c).1.trans ?_, (hr c).2⟩) (Cert.SelectRefIdeal.Value.run m' g')
  rw [(hargs c).1, (hargs c).2]
  exact (equal _ _ (hpre c)).symm

theorem reference_frame : Cert.quiescent_SelectRefIdeal := by
  intro m g _
  exact (θ_run Cert.SelectRefIdeal.defs _ _).mono (fun r h => ⟨fun c => (h c).2, sem_eq_zero_of_no_sems (by decide) r.2⟩)
    (Cert.SelectRefIdeal.Value.run m g)

end Cert.SelectValue

end
-- ==== Proof.lean ====
/-
  The certificate: the claims about the main pass and about the selection.
-/
module

public import proofs.«01_k».proof.Defs
public import proofs.«01_k».proof.Proof.MainValue
public import proofs.«01_k».proof.Proof.SelectValue
public import proofs.«01_k».proof.Proof.Gen.Main.Frame
public import proofs.«01_k».proof.Proof.Gen.MainIdeal.Frame
public import proofs.«01_k».proof.Proof.Gen.MainRefIdeal.Run
public import proofs.«01_k».proof.Proof.Gen.Select.Frame
public import proofs.«01_k».proof.Proof.Gen.SelectIdeal.Frame

@[expose] public section

noncomputable section

namespace Cert.Proof

theorem claim : Cert.Claim :=
  ⟨Cert.Main.Gen.facts, Cert.MainIdeal.Gen.facts, Cert.MainRefIdeal.Gen.facts, Cert.Select.Gen.facts, Cert.SelectIdeal.Gen.facts,
    Cert.SelectRefIdeal.Gen.facts, Cert.Pre_main_pre.Gen.facts, Cert.Pre_select_pre.Gen.facts,
    fun m ρ _ => Cert.MainFrame.frame_bits m ρ, fun m ρ _ => Cert.MainFrame.frame ρ, fun m ρ _ => Cert.MainFrame.frame ρ,
    Cert.MainReference.reference_frame, fun m ρ _ => Cert.MainReference.reference_frame m ρ trivial,
    fun m ρ _ => Cert.Select.Gen.frame m ρ, fun m ρ _ => Cert.SelectIdeal.Gen.frame m ρ, fun m ρ _ => Cert.SelectIdeal.Gen.frame m ρ,
    Cert.SelectValue.reference_frame, fun m ρ _ => Cert.SelectValue.reference_frame m ρ trivial,
    trivial, Cert.MainValue.algebraic, trivial, Cert.SelectValue.algebraic⟩

end Cert.Proof

end
